-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S18944x3584 : Shape := ⟨2, ![18944, 3584]⟩
abbrev S18944x448x2 : Shape := ⟨3, ![18944, 448, 2]⟩
abbrev S2x256x8 : Shape := ⟨3, ![2, 256, 8]⟩
abbrev S18944 : Shape := ⟨1, ![18944]⟩
abbrev S4x1024x3584 : Shape := ⟨3, ![4, 1024, 3584]⟩
abbrev S2x448x18944 : Shape := ⟨3, ![2, 448, 18944]⟩
abbrev S2x8x256 : Shape := ⟨3, ![2, 8, 256]⟩
abbrev S1x18944 : Shape := ⟨2, ![1, 18944]⟩
abbrev S4096x3584 : Shape := ⟨2, ![4096, 3584]⟩
abbrev S32x18944 : Shape := ⟨2, ![32, 18944]⟩
abbrev S1x1 : Shape := ⟨2, ![1, 1]⟩
abbrev S256x3584 : Shape := ⟨2, ![256, 3584]⟩
abbrev S2x448x256 : Shape := ⟨3, ![2, 448, 256]⟩
abbrev S1x256 : Shape := ⟨2, ![1, 256]⟩
abbrev S32x256 : Shape := ⟨2, ![32, 256]⟩
abbrev S2x2x448x128 : Shape := ⟨4, ![2, 2, 448, 128]⟩
abbrev S3584x256 : Shape := ⟨2, ![3584, 256]⟩
abbrev S1x448x128 : Shape := ⟨3, ![1, 448, 128]⟩
abbrev S448x128 : Shape := ⟨2, ![448, 128]⟩
abbrev S1x1x448x128 : Shape := ⟨4, ![1, 1, 448, 128]⟩
abbrev S1x8x256 : Shape := ⟨3, ![1, 8, 256]⟩
abbrev S8x256 : Shape := ⟨2, ![8, 256]⟩
abbrev S8x128 : Shape := ⟨2, ![8, 128]⟩
abbrev S256x128 : Shape := ⟨2, ![256, 128]⟩
abbrev S128x256 : Shape := ⟨2, ![128, 256]⟩
abbrev S1x128 : Shape := ⟨2, ![1, 128]⟩
abbrev S1x1x1x128 : Shape := ⟨4, ![1, 1, 1, 128]⟩
abbrev S8x128x1 : Shape := ⟨3, ![8, 128, 1]⟩
abbrev S128x128 : Shape := ⟨2, ![128, 128]⟩
abbrev S1024x3584 : Shape := ⟨2, ![1024, 3584]⟩
abbrev S1024x256 : Shape := ⟨2, ![1024, 256]⟩
abbrev S8x128x256 : Shape := ⟨3, ![8, 128, 256]⟩
abbrev S256 : Shape := ⟨1, ![256]⟩
abbrev S1x1x256 : Shape := ⟨3, ![1, 1, 256]⟩
abbrev S1 : Shape := ⟨1, ![1]⟩
abbrev S1x1x1 : Shape := ⟨3, ![1, 1, 1]⟩
abbrev S18944x32 : Shape := ⟨2, ![18944, 32]⟩
abbrev S_ : Shape := ⟨0, ![]⟩

abbrev nBuf : Space → Nat
  | .hbm => 15
  | .vmem => 17
  | .smem => 1
  | _ => 0

abbrev bufTy : (tb : Table) → Fin (tcTables nBuf tb) → BufTy
  | .hbm, ⟨0, _⟩ => ⟨S18944x3584, .bf16⟩
  | .hbm, ⟨1, _⟩ => ⟨S18944x448x2, .i8⟩
  | .hbm, ⟨2, _⟩ => ⟨S2x256x8, .bf16⟩
  | .hbm, ⟨3, _⟩ => ⟨S18944, .f32⟩
  | .hbm, ⟨4, _⟩ => ⟨S4x1024x3584, .bf16⟩
  | .hbm, ⟨5, _⟩ => ⟨S2x448x18944, .i8⟩
  | .hbm, ⟨6, _⟩ => ⟨S2x8x256, .bf16⟩
  | .hbm, ⟨7, _⟩ => ⟨S1x18944, .f32⟩
  | .hbm, ⟨8, _⟩ => ⟨S4096x3584, .bf16⟩
  | .hbm, ⟨9, _⟩ => ⟨S32x18944, .f32⟩
  | .hbm, ⟨10, _⟩ => ⟨S1x18944, .f32⟩
  | .hbm, ⟨11, _⟩ => ⟨S1x1, .f32⟩
  | .hbm, ⟨12, _⟩ => ⟨S18944, .f32⟩
  | .hbm, ⟨13, _⟩ => ⟨S18944x32, .f32⟩
  | .hbm, ⟨14, _⟩ => ⟨S_, .f32⟩
  | .local _ .vmem, ⟨0, _⟩ => ⟨S256x3584, .bf16⟩
  | .local _ .vmem, ⟨1, _⟩ => ⟨S256x3584, .bf16⟩
  | .local _ .vmem, ⟨2, _⟩ => ⟨S2x448x256, .i8⟩
  | .local _ .vmem, ⟨3, _⟩ => ⟨S2x448x256, .i8⟩
  | .local _ .vmem, ⟨4, _⟩ => ⟨S2x8x256, .bf16⟩
  | .local _ .vmem, ⟨5, _⟩ => ⟨S1x256, .f32⟩
  | .local _ .vmem, ⟨6, _⟩ => ⟨S1x256, .f32⟩
  | .local _ .vmem, ⟨7, _⟩ => ⟨S4096x3584, .bf16⟩
  | .local _ .vmem, ⟨8, _⟩ => ⟨S32x256, .f32⟩
  | .local _ .vmem, ⟨9, _⟩ => ⟨S32x256, .f32⟩
  | .local _ .vmem, ⟨10, _⟩ => ⟨S1x256, .f32⟩
  | .local _ .vmem, ⟨11, _⟩ => ⟨S1x256, .f32⟩
  | .local _ .vmem, ⟨12, _⟩ => ⟨S2x2x448x128, .i32⟩
  | .local _ .vmem, ⟨13, _⟩ => ⟨S3584x256, .bf16⟩
  | .local _ .vmem, ⟨14, _⟩ => ⟨S3584x256, .bf16⟩
  | .local _ .vmem, ⟨15, _⟩ => ⟨S3584x256, .bf16⟩
  | .local _ .vmem, ⟨16, _⟩ => ⟨S1x256, .f32⟩
  | .local _ .smem, ⟨0, _⟩ => ⟨S1x1, .f32⟩
  | _, _ => ⟨S18944x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![74], ![false]⟩

@[reducible] def k0_t1_loop : Scf.Loop 32 :=
  let c0_i32 : BitVec 32 := 0#32
  let c28_i32 : BitVec 32 := 28#32
  let v34 : BitVec 32 := Scalar.addi c0_i32 c28_i32
  let c1_i32 : BitVec 32 := 1#32
  ⟨c0_i32, v34, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c128_i32 : BitVec 32 := 128#32
  let v115 : BitVec 32 := Scalar.muli arg14 c128_i32
  v115
def k0_off1 (k0_t1 : Fin k0_t1_loop.trips) : Fin 2 → Nat :=
  let c0_97 : Index := 0#32
  let c0_i32 : BitVec 32 := 0#32
  let c1_i32 : BitVec 32 := 1#32
  let arg14 : BitVec 32 := Scf.iv c0_i32 c1_i32 k0_t1
  let c128_i32 : BitVec 32 := 128#32
  let v115 : BitVec 32 := Scalar.muli arg14 c128_i32
  let v116 : BitVec 32 := v115
  let v118 : Index := Scalar.indexCast v116
  ![0, v118.toNat]
def k0_off2 (k0_t1 : Fin k0_t1_loop.trips) (c0_i32_100 : BitVec 32) : Fin 4 → Nat :=
  let c0_101 : Index := 0#32
  let c0_102 : Index := 0#32
  let c0_i32 : BitVec 32 := 0#32
  let c1_i32 : BitVec 32 := 1#32
  let arg14 : BitVec 32 := Scf.iv c0_i32 c1_i32 k0_t1
  let c16_i32 : BitVec 32 := 16#32
  let v117 : BitVec 32 := Scalar.muli arg14 c16_i32
  let v124 : BitVec 32 := Scalar.addi v117 c0_i32_100
  let v125 : Index := Scalar.indexCast v124
  let c0_103 : Index := 0#32
  ![0, 0, v125.toNat, 0]
def k0_off3 (k0_t1 : Fin k0_t1_loop.trips) (c0_i32_110 : BitVec 32) : Fin 4 → Nat :=
  let c1_111 : Index := 1#32
  let c0_112 : Index := 0#32
  let c0_i32 : BitVec 32 := 0#32
  let c1_i32 : BitVec 32 := 1#32
  let arg14 : BitVec 32 := Scf.iv c0_i32 c1_i32 k0_t1
  let c16_i32 : BitVec 32 := 16#32
  let v117 : BitVec 32 := Scalar.muli arg14 c16_i32
  let v153 : BitVec 32 := Scalar.addi v117 c0_i32_110
  let v154 : Index := Scalar.indexCast v153
  let c0_113 : Index := 0#32
  ![1, 0, v154.toNat, 0]
def k0_off4 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v115 : BitVec 32 := Scalar.muli arg14 c128_i32
  let v116 : BitVec 32 := v115
  let v1134 : Index := Scalar.indexCast v116
  let c0_437 : Index := 0#32
  ![v1134.toNat, 0]
def k0_off5 (k0_t1 : Fin k0_t1_loop.trips) (c0_i32_442 : BitVec 32) : Fin 4 → Nat :=
  let c0_443 : Index := 0#32
  let c1_444 : Index := 1#32
  let c0_i32 : BitVec 32 := 0#32
  let c1_i32 : BitVec 32 := 1#32
  let arg14 : BitVec 32 := Scf.iv c0_i32 c1_i32 k0_t1
  let c16_i32 : BitVec 32 := 16#32
  let v117 : BitVec 32 := Scalar.muli arg14 c16_i32
  let v1154 : BitVec 32 := Scalar.addi v117 c0_i32_442
  let v1155 : Index := Scalar.indexCast v1154
  let c0_445 : Index := 0#32
  ![0, 1, v1155.toNat, 0]
def k0_off6 (k0_t1 : Fin k0_t1_loop.trips) (c0_i32_453 : BitVec 32) : Fin 4 → Nat :=
  let c1_454 : Index := 1#32
  let c1_455 : Index := 1#32
  let c0_i32 : BitVec 32 := 0#32
  let c1_i32 : BitVec 32 := 1#32
  let arg14 : BitVec 32 := Scf.iv c0_i32 c1_i32 k0_t1
  let c16_i32 : BitVec 32 := 16#32
  let v117 : BitVec 32 := Scalar.muli arg14 c16_i32
  let v1183 : BitVec 32 := Scalar.addi v117 c0_i32_453
  let v1184 : Index := Scalar.indexCast v1183
  let c0_456 : Index := 0#32
  ![1, 1, v1184.toNat, 0]
def k0_off7 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v115 : BitVec 32 := Scalar.muli arg14 c128_i32
  let v116 : BitVec 32 := v115
  let v2164 : Index := Scalar.indexCast v116
  let c128_794 : Index := 128#32
  ![v2164.toNat, 128]
def k0_cond2 (i : grid0.Coords) : BitVec 1 :=
  let arg0 : BitVec 32 := BitVec.ofNat 32 (i 0).val
  let c73_i32 : BitVec 32 := 73#32
  let v112 : BitVec 1 := Scalar.cmpi .eq arg0 c73_i32
  let v113 : BitVec 32 := Scalar.extui v112
  let c0_i32_96 : BitVec 32 := 0#32
  let v114 : BitVec 1 := Scalar.cmpi .ne v113 c0_i32_96
  v114

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x448x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x8x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .smem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S18944x3584 : Shape := ⟨2, ![18944, 3584]⟩
abbrev S18944x448x2 : Shape := ⟨3, ![18944, 448, 2]⟩
abbrev S2x256x8 : Shape := ⟨3, ![2, 256, 8]⟩
abbrev S18944 : Shape := ⟨1, ![18944]⟩
abbrev S4x1024x3584 : Shape := ⟨3, ![4, 1024, 3584]⟩
abbrev S1x256x8 : Shape := ⟨3, ![1, 256, 8]⟩
abbrev S256x8 : Shape := ⟨2, ![256, 8]⟩
abbrev S256x1x8 : Shape := ⟨3, ![256, 1, 8]⟩
abbrev S256x256x8 : Shape := ⟨3, ![256, 256, 8]⟩
abbrev S65536x8 : Shape := ⟨2, ![65536, 8]⟩
abbrev S18944x448x1 : Shape := ⟨3, ![18944, 448, 1]⟩
abbrev S18944x448 : Shape := ⟨2, ![18944, 448]⟩
abbrev S_ : Shape := ⟨0, ![]⟩
abbrev S1 : Shape := ⟨1, ![1]⟩
abbrev S1x1x1 : Shape := ⟨3, ![1, 1, 1]⟩
abbrev S18944x448x8 : Shape := ⟨3, ![18944, 448, 8]⟩
abbrev S18944x1x1 : Shape := ⟨3, ![18944, 1, 1]⟩
abbrev S4096x3584 : Shape := ⟨2, ![4096, 3584]⟩
abbrev S18944x4096 : Shape := ⟨2, ![18944, 4096]⟩
abbrev S18944x32x128 : Shape := ⟨3, ![18944, 32, 128]⟩
abbrev S18944x32 : Shape := ⟨2, ![18944, 32]⟩

abbrev nBuf : Space → Nat
  | .hbm => 68
  | .vmem => 0
  | .smem => 0
  | _ => 0

abbrev bufTy : (tb : Table) → Fin (tcTables nBuf tb) → BufTy
  | .hbm, ⟨0, _⟩ => ⟨S18944x3584, .bf16⟩
  | .hbm, ⟨1, _⟩ => ⟨S18944x448x2, .i8⟩
  | .hbm, ⟨2, _⟩ => ⟨S2x256x8, .bf16⟩
  | .hbm, ⟨3, _⟩ => ⟨S18944, .f32⟩
  | .hbm, ⟨4, _⟩ => ⟨S4x1024x3584, .bf16⟩
  | .hbm, ⟨5, _⟩ => ⟨S2x256x8, .f32⟩
  | .hbm, ⟨6, _⟩ => ⟨S1x256x8, .f32⟩
  | .hbm, ⟨7, _⟩ => ⟨S256x8, .f32⟩
  | .hbm, ⟨8, _⟩ => ⟨S256x1x8, .f32⟩
  | .hbm, ⟨9, _⟩ => ⟨S1x256x8, .f32⟩
  | .hbm, ⟨10, _⟩ => ⟨S256x8, .f32⟩
  | .hbm, ⟨11, _⟩ => ⟨S1x256x8, .f32⟩
  | .hbm, ⟨12, _⟩ => ⟨S256x256x8, .f32⟩
  | .hbm, ⟨13, _⟩ => ⟨S256x256x8, .f32⟩
  | .hbm, ⟨14, _⟩ => ⟨S256x256x8, .f32⟩
  | .hbm, ⟨15, _⟩ => ⟨S65536x8, .f32⟩
  | .hbm, ⟨16, _⟩ => ⟨S18944x448x2, .i32⟩
  | .hbm, ⟨17, _⟩ => ⟨S18944x448x1, .i32⟩
  | .hbm, ⟨18, _⟩ => ⟨S18944x448, .i32⟩
  | .hbm, ⟨19, _⟩ => ⟨S_, .i32⟩
  | .hbm, ⟨20, _⟩ => ⟨S18944x448, .i32⟩
  | .hbm, ⟨21, _⟩ => ⟨S18944x448, .i32⟩
  | .hbm, ⟨22, _⟩ => ⟨S18944x448x1, .i32⟩
  | .hbm, ⟨23, _⟩ => ⟨S18944x448, .i32⟩
  | .hbm, ⟨24, _⟩ => ⟨S18944x448, .i32⟩
  | .hbm, ⟨25, _⟩ => ⟨S_, .i32⟩
  | .hbm, ⟨26, _⟩ => ⟨S18944x448, .i32⟩
  | .hbm, ⟨27, _⟩ => ⟨S18944x448, .i1⟩
  | .hbm, ⟨28, _⟩ => ⟨S_, .i32⟩
  | .hbm, ⟨29, _⟩ => ⟨S18944x448, .i32⟩
  | .hbm, ⟨30, _⟩ => ⟨S18944x448, .i32⟩
  | .hbm, ⟨31, _⟩ => ⟨S18944x448, .i32⟩
  | .hbm, ⟨32, _⟩ => ⟨S18944x448x1, .i32⟩
  | .hbm, ⟨33, _⟩ => ⟨S1, .i32⟩
  | .hbm, ⟨34, _⟩ => ⟨S_, .i32⟩
  | .hbm, ⟨35, _⟩ => ⟨S18944x448x1, .i32⟩
  | .hbm, ⟨36, _⟩ => ⟨S18944x448x1, .i1⟩
  | .hbm, ⟨37, _⟩ => ⟨S1x1x1, .i32⟩
  | .hbm, ⟨38, _⟩ => ⟨S18944x448x1, .i32⟩
  | .hbm, ⟨39, _⟩ => ⟨S18944x448x1, .i1⟩
  | .hbm, ⟨40, _⟩ => ⟨S18944x448x1, .i1⟩
  | .hbm, ⟨41, _⟩ => ⟨S_, .i1⟩
  | .hbm, ⟨42, _⟩ => ⟨S18944x448, .i1⟩
  | .hbm, ⟨43, _⟩ => ⟨S18944x448x8, .f32⟩
  | .hbm, ⟨44, _⟩ => ⟨S18944x448x8, .i1⟩
  | .hbm, ⟨45, _⟩ => ⟨S_, .f32⟩
  | .hbm, ⟨46, _⟩ => ⟨S18944x448x8, .f32⟩
  | .hbm, ⟨47, _⟩ => ⟨S18944x448x8, .f32⟩
  | .hbm, ⟨48, _⟩ => ⟨S18944x1x1, .f32⟩
  | .hbm, ⟨49, _⟩ => ⟨S18944x448x8, .f32⟩
  | .hbm, ⟨50, _⟩ => ⟨S18944x448x8, .f32⟩
  | .hbm, ⟨51, _⟩ => ⟨S18944x3584, .f32⟩
  | .hbm, ⟨52, _⟩ => ⟨S18944x3584, .f32⟩
  | .hbm, ⟨53, _⟩ => ⟨S18944x3584, .f32⟩
  | .hbm, ⟨54, _⟩ => ⟨S4x1024x3584, .f32⟩
  | .hbm, ⟨55, _⟩ => ⟨S4096x3584, .f32⟩
  | .hbm, ⟨56, _⟩ => ⟨S18944x4096, .f32⟩
  | .hbm, ⟨57, _⟩ => ⟨S18944x4096, .f32⟩
  | .hbm, ⟨58, _⟩ => ⟨S18944x32x128, .f32⟩
  | .hbm, ⟨59, _⟩ => ⟨S_, .f32⟩
  | .hbm, ⟨60, _⟩ => ⟨S18944x32, .f32⟩
  | .hbm, ⟨61, _⟩ => ⟨S_, .f32⟩
  | .hbm, ⟨62, _⟩ => ⟨S18944x32, .f32⟩
  | .hbm, ⟨63, _⟩ => ⟨S18944x32, .f32⟩
  | .hbm, ⟨64, _⟩ => ⟨S_, .f32⟩
  | .hbm, ⟨65, _⟩ => ⟨S18944, .f32⟩
  | .hbm, ⟨66, _⟩ => ⟨S_, .f32⟩
  | .hbm, ⟨67, _⟩ => ⟨S_, .f32⟩
  | _, _ => ⟨S18944x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst : Ref sig .tc := ⟨.hbm, 59, rfl⟩
abbrev main_v31 : Ref sig .tc := ⟨.hbm, 60, rfl⟩
abbrev main_cst_0 : Ref sig .tc := ⟨.hbm, 61, rfl⟩
abbrev main_v32 : Ref sig .tc := ⟨.hbm, 62, rfl⟩
abbrev main_v33 : Ref sig .tc := ⟨.hbm, 63, rfl⟩
abbrev main_cst_1 : Ref sig .tc := ⟨.hbm, 64, rfl⟩
abbrev main_v34 : Ref sig .tc := ⟨.hbm, 65, rfl⟩
abbrev main_cst_2 : Ref sig .tc := ⟨.hbm, 66, rfl⟩
abbrev main_v35 : Ref sig .tc := ⟨.hbm, 67, rfl⟩

abbrev nD : Nat := 1
abbrev τ : Topo := Topo.v7x

variable {F : FTy → Type} [FloatOps F]
-- ==== Proof.Trip.lean ====
/- What one trip of the decoding loop stores, in one vocabulary for its two column halves: the residual of a
   128 x 128 block and its three limbs. -/
module

public import proofs.«01_k».proof.Proof.Gen.KernelIdeal.Loops

@[expose] public section

noncomputable section

namespace Cert.KernelIdeal.Val

open Idealize.ShloMosaic Idealize.SL.Sem Idealize.ShloMosaic.TcCoe Cert.KernelIdeal.Gen

variable {F : FTy → Type} [FloatOps F]

/-- The entries of one codebook (held as its two halves of 128 columns) chosen by a row of code words. -/
def pick (lo hi : FVec F S8x128 .f32) (w : Vec F S1x1x1x128 .i32) : FVec F S8x128 .f32 := k0_pay3 lo hi w

/-- Every group of eight rows lies inside the block, at either column half. -/
theorem slices_group (h : Fin 2) (g : Fin 16) : S128x256.Slices ![8 * g.val, 128 * h.val] S8x128 := by
  revert h g; decide

/-- The residual of eight rows of a block: the weights' rows minus the scaled sum of the two chosen entries. -/
def group (h : Fin 2) (v24 v29 : Vec F S1x8x256 .bf16) (wt : FVec F S128x256 .f32) (rs : FVec F S1x128 .f32)
    (w0 w1 : Fin 16 → Vec F S1x1x1x128 .i32) (g : Fin 16) : FVec F S8x128 .f32 :=
  subf (extractStridedSlice S8x128 ![8 * g.val, 128 * h.val] wt (slices_group h g))
    (mulf (addf (pick (k0_pay160 v24) (k0_pay161 v24) (w0 g)) (pick (k0_pay163 v29) (k0_pay164 v29) (w1 g)))
      (broadcastTo S8x128 rs broadcasts_S1x128_S8x128))

/-- Sixteen groups of eight rows make the 128 rows of a block. -/
theorem concatenates_groups (f : Fin 16 → FVec F S8x128 .f32) :
    Shape.Concatenates ((List.ofFn fun g : Fin 16 => (⟨S8x128, f g⟩ : (s : Shape) × (s.Idx → F .f32))).map (·.1)) S128x128 0 :=
  concatenates_S8x128_S8x128_S8x128_S8x128_S8x128_S8x128_S8x128_S8x128_S8x128_S8x128_S8x128_S8x128_S8x128_S8x128_S8x128_S8x128_S128x128_d0

/-- The residual of a 128 x 128 block. -/
def resid (h : Fin 2) (v24 v29 : Vec F S1x8x256 .bf16) (wt : FVec F S128x256 .f32) (rs : FVec F S1x128 .f32)
    (w0 w1 : Fin 16 → Vec F S1x1x1x128 .i32) : FVec F S128x128 .f32 :=
  concatenate S128x128 0 (List.ofFn fun g : Fin 16 => ⟨S8x128, group h v24 v29 wt rs w0 w1 g⟩) (concatenates_groups _)

/-- What rounding to bf16 leaves of a block. -/
def rest (r : FVec F S128x128 .f32) : FVec F S128x128 .f32 :=
  subf r (extf .f32 (truncf .bf16 r bitsLt_bf16_f32) bitsLt_bf16_f32)

/-- A block rounded to bf16, as it is stored. -/
def limb (r : FVec F S128x128 .f32) : FVec F S128x128 .bf16 :=
  shapeCast S128x128 (truncf .bf16 r bitsLt_bf16_f32) shapeCasts_S128x128_S128x128

/-- The rectangle of the limb arrays that half `h` of trip `k` stores. -/
def half (k : Fin k0_t1_loop.trips) : Fin 2 → Rect S3584x256 :=
  ![Rect.unit (s := S3584x256) (k0_off4 k) S128x128.size (k0_off4_inb k), Rect.unit (s := S3584x256) (k0_off7 k) S128x128.size (k0_off7_inb k)]

section Trip
variable (arg1 : Memref sig .tc .vmem S256x3584 .bf16) (arg4 : Memref sig .tc .vmem S1x256 .f32) (arg9 : Memref sig .tc .vmem S2x2x448x128 .i32)
  (v24 v29 : Vec F S1x8x256 .bf16) (X_arg1 : BufTy.Contents (Elt F) arg1.view.ty) (X_arg4 : BufTy.Contents (Elt F) arg4.view.ty)
  (X_arg9 : BufTy.Contents (Elt F) arg9.view.ty) (k : Fin k0_t1_loop.trips)

/-- The block of weights trip `k` reads, transposed. -/
def wblock : FVec F S128x256 .f32 :=
  k0_pay1 (arg1.view.readAt (Elt F) (Rect.unit (s := S256x3584) (k0_off1 k) S256x128.size (k0_off1_inb k)).toLoadRect X_arg1)

/-- The left half's residual of trip `k`. -/
def resid0 : FVec F S128x128 .f32 :=
  resid 0 v24 v29 (wblock arg1 X_arg1 k)
    (k0_pay2 (arg4.view.readAt (Elt F) (Rect.unit (s := S1x256) ![0, 0] S1x128.size inb_S1x256_S1x128_0_0).toLoadRect X_arg4))
    (fun g => arg9.view.readAt (Elt F) (Rect.unit (s := S2x2x448x128) (k0_off2 k (BitVec.ofNat 32 g.val)) S1x1x1x128.size (k0_off2_inb k g)).toLoadRect X_arg9)
    (fun g => arg9.view.readAt (Elt F) (Rect.unit (s := S2x2x448x128) (k0_off3 k (BitVec.ofNat 32 g.val)) S1x1x1x128.size (k0_off3_inb k g)).toLoadRect X_arg9)

/-- The right half's residual of trip `k`. -/
def resid1 : FVec F S128x128 .f32 :=
  resid 1 v24 v29 (wblock arg1 X_arg1 k)
    (k0_pay80 (arg4.view.readAt (Elt F) (Rect.unit (s := S1x256) ![0, 128] S1x128.size inb_S1x256_S1x128_0_128).toLoadRect X_arg4))
    (fun g => arg9.view.readAt (Elt F) (Rect.unit (s := S2x2x448x128) (k0_off5 k (BitVec.ofNat 32 g.val)) S1x1x1x128.size (k0_off5_inb k g)).toLoadRect X_arg9)
    (fun g => arg9.view.readAt (Elt F) (Rect.unit (s := S2x2x448x128) (k0_off6 k (BitVec.ofNat 32 g.val)) S1x1x1x128.size (k0_off6_inb k g)).toLoadRect X_arg9)
end Trip

set_option maxRecDepth 65536 in
set_option maxHeartbeats 4000000 in
/-- Trip `k` stores the three limbs of the left and of the right residual, each limb array's right half last. -/
theorem trip_eq (𝒱 : Variants) (c : Dev nD) (bd : Option 𝒱.V) (i : grid0.Coords) (arg1 : Memref sig .tc .vmem S256x3584 .bf16) (harg1 : arg1.IsWhole) (arg2 : Memref sig .tc .vmem S2x448x256 .i8) (harg2 : arg2.IsWhole) (arg3 : Memref sig .tc .vmem S2x8x256 .bf16) (harg3 : arg3.IsWhole) (arg4 : Memref sig .tc .vmem S1x256 .f32) (harg4 : arg4.IsWhole) (arg5 : Memref sig .tc .vmem S4096x3584 .bf16) (harg5 : arg5.IsWhole) (arg6 : Memref sig .tc .vmem S32x256 .f32) (harg6 : arg6.IsWhole) (arg7 : Memref sig .tc .vmem S1x256 .f32) (harg7 : arg7.IsWhole) (arg8 : Memref sig .tc .smem S1x1 .f32) (harg8 : arg8.IsWhole) (arg9 : Memref sig .tc .vmem S2x2x448x128 .i32) (harg9 : arg9.IsWhole) (arg10 : Memref sig .tc .vmem S3584x256 .bf16) (harg10 : arg10.IsWhole) (arg11 : Memref sig .tc .vmem S3584x256 .bf16) (harg11 : arg11.IsWhole) (arg12 : Memref sig .tc .vmem S3584x256 .bf16) (harg12 : arg12.IsWhole) (arg13 : Memref sig .tc .vmem S1x256 .f32) (harg13 : arg13.IsWhole) (v24 : Vec F S1x8x256 .bf16) (v29 : Vec F S1x8x256 .bf16) (X_arg1 : BufTy.Contents (Elt F) arg1.view.ty) (X_arg4 : BufTy.Contents (Elt F) arg4.view.ty) (X_arg9 : BufTy.Contents (Elt F) arg9.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v24 v29 X_arg1 X_arg4 X_arg9 k =
      (let R0 := resid0 arg1 arg4 arg9 v24 v29 X_arg1 X_arg4 X_arg9 k
       let R1 := resid1 arg1 arg4 arg9 v24 v29 X_arg1 X_arg4 X_arg9 k
       ([⟨half k 1, limb R1⟩, ⟨half k 0, limb R0⟩], [⟨half k 1, limb (rest R1)⟩, ⟨half k 0, limb (rest R0)⟩],
        [⟨half k 1, limb (rest (rest R1))⟩, ⟨half k 0, limb (rest (rest R0))⟩])) := by
  unfold tripL_k0_t1 trip_k0_t1
  dsimp only
  sl_unfold_words
  rfl

end Cert.KernelIdeal.Val

end
-- ==== Proof.Pick.lean ====
/- One block of the decoding loop at an index: the residual is the weight minus the scaled sum of the two codebook
   entries that the element's codes choose. -/
module

public import proofs.«01_k».proof.Proof.Trip
public import Idealize.ShloMosaic.Lib.Pointwise
public import Idealize.ShloMosaic.Lib.Pipeline.ValueKit.Tiles

@[expose] public section

noncomputable section

namespace Cert.KernelIdeal.Val

open Idealize.ShloMosaic Idealize.SL.Sem Idealize.ShloMosaic.TcCoe Cert.KernelIdeal.Gen

/-- A code as the column of the codebook it names. -/
def codeOf (c : BitVec 8) : Fin 256 := ⟨c.toNat, c.isLt⟩

/-- What the kernel's index words come to: a code of at least 128 is in the right half, and its place in its half is
    the code modulo 128. -/
theorem word_facts : ∀ n : Fin 256,
    IntOp.cmpi .sge ((BitVec.ofFin n : BitVec 8).setWidth 32) 128#32 = (if 128 ≤ n.val then 1#1 else 0#1) ∧
    (Scalar.select (IntOp.cmpi .slt (IntOp.andi ((BitVec.ofFin n : BitVec 8).setWidth 32) 127#32) 0#32)
      (IntOp.addi (IntOp.andi ((BitVec.ofFin n : BitVec 8).setWidth 32) 127#32) 128#32)
      (IntOp.andi ((BitVec.ofFin n : BitVec 8).setWidth 32) 127#32)).toNat % 128 = n.val % 128 := by
  decide +kernel

/-- The entries chosen by a row of words that hold codes are those codes' columns of the codebook. -/
theorem pick_apply (v : Vec Ideal S1x8x256 .bf16) (w : Vec Ideal S1x1x1x128 .i32) (s : Fin 8) (l : Fin 128) (c : BitVec 8)
    (hw : w (ix4 0 0 0 l) = c.setWidth 32) :
    pick (k0_pay160 v) (k0_pay161 v) w (ix2 s l) = v (ix3 0 s (codeOf c)) := by
  obtain ⟨h1, h2⟩ := word_facts c.toFin
  unfold pick k0_pay3 k0_pay161 k0_pay160 k0_pay159
  pointwise [hw]
  simp only [BitVec.ofFin_toFin] at h1 h2
  rw [h1]
  have hc : (c.toFin.val : ℕ) = c.toNat := rfl
  rw [hc] at h1 h2 ⊢
  have hlt := c.isLt
  by_cases hk : 128 ≤ c.toNat
  · rw [if_pos hk]
    show v _ = v _
    congr 2
    apply Fin.ext
    exact (congrArg (128 + ·) h2).trans (show 128 + c.toNat % 128 = c.toNat by omega)
  · rw [if_neg hk]
    show v _ = v _
    congr 2
    apply Fin.ext
    exact h2.trans (show c.toNat % 128 = c.toNat by omega)

/-- The second codebook's halves are cut as the first's. -/
theorem pick_apply' (v : Vec Ideal S1x8x256 .bf16) (w : Vec Ideal S1x1x1x128 .i32) (s : Fin 8) (l : Fin 128) (c : BitVec 8)
    (hw : w (ix4 0 0 0 l) = c.setWidth 32) :
    pick (k0_pay163 v) (k0_pay164 v) w (ix2 s l) = v (ix3 0 s (codeOf c)) :=
  pick_apply v w s l c hw

/-- A block's residual at a row and a lane. -/
theorem resid_apply (h : Fin 2) (v24 v29 : Vec Ideal S1x8x256 .bf16) (wt : FVec Ideal S128x256 .f32) (rs : FVec Ideal S1x128 .f32)
    (w0 w1 : Fin 16 → Vec Ideal S1x1x1x128 .i32) (a l : Fin 128) (c0 c1 : BitVec 8)
    (h0 : w0 ⟨a.val / 8, by omega⟩ (ix4 0 0 0 l) = c0.setWidth 32) (h1 : w1 ⟨a.val / 8, by omega⟩ (ix4 0 0 0 l) = c1.setWidth 32) :
    resid h v24 v29 wt rs w0 w1 (ix2 a l) =
      wt (ix2 a ⟨128 * h.val + l.val, by omega⟩)
        - (v24 (ix3 0 ⟨a.val % 8, by omega⟩ (codeOf c0)) + v29 (ix3 0 ⟨a.val % 8, by omega⟩ (codeOf c1))) * rs (ix2 0 l) := by
  unfold resid
  rw [concatenate_ofFn_apply (t := S128x128) (s₁ := S8x128) (a := (0 : Fin 2)) (f := group h v24 v29 wt rs w0 w1) (K := 8)
    (n := (⟨a.val / 8, by omega⟩ : Fin 16)) (i := ix2 ⟨a.val % 8, by omega⟩ l) (hr := rfl)]
  · unfold group
    pointwise [pick_apply v24 (w0 ⟨a.val / 8, by omega⟩) _ l c0 h0, pick_apply' v29 (w1 ⟨a.val / 8, by omega⟩) _ l c1 h1]
    congr 3
    apply Fin.ext
    show 8 * (a.val / 8) + a.val % 8 = a.val
    omega
  · rfl
  · rfl
  · rfl
  · intro b hb
    match b with
    | ⟨0, _⟩ => exact absurd rfl hb
    | ⟨1, _⟩ => rfl

end Cert.KernelIdeal.Val
end
-- ==== Proof.Limbs.lean ====
/- What the decoding loop leaves in the three limb arrays: at every column and row the residual, what the first limb
   leaves of it, and what the second leaves of that. -/
module

public import proofs.«01_k».proof.Proof.Pick

@[expose] public section

noncomputable section

namespace Cert.KernelIdeal.Val

open Idealize.ShloMosaic Idealize.SL.Sem Idealize.ShloMosaic.TcCoe Cert.KernelIdeal.Gen

/-- The residual of one tile at a model column `d` and a row `o` of the tile: the weight minus the scaled sum of the two
    codebook entries chosen by the codes of the column's group. -/
def tileRes (x0 : Vec Ideal S256x3584 .bf16) (x1 : Vec Ideal S2x448x256 .i8) (x2 : Vec Ideal S2x8x256 .bf16) (x3 : Vec Ideal S1x256 .f32)
    (d : Fin 3584) (o : Fin 256) : EReal :=
  x0 (ix2 o d) - (x2 (ix3 0 ⟨d.val % 8, by omega⟩ (codeOf (x1 (ix3 0 ⟨d.val / 8, by omega⟩ o))))
    + x2 (ix3 1 ⟨d.val % 8, by omega⟩ (codeOf (x1 (ix3 1 ⟨d.val / 8, by omega⟩ o))))) * x3 (ix2 0 o)

/-- The loop makes 28 trips. -/
theorem trips_eq : k0_t1_loop.trips = 28 := by decide +kernel

/-- Trip `k` is one of 28. -/
theorem trip_lt (k : Fin k0_t1_loop.trips) : k.val < 28 := lt_of_lt_of_eq k.isLt trips_eq

/-- Where half `h` of trip `k` stores its element at row `a` and lane `l`. -/
theorem half_emb (k : Fin k0_t1_loop.trips) (a l : Fin 128) :
    (half k 0).emb (ix2 a l) = ix2 ⟨128 * k.val + a.val, by have := trip_lt k; omega⟩ ⟨l.val, by omega⟩ ∧
    (half k 1).emb (ix2 a l) = ix2 ⟨128 * k.val + a.val, by have := trip_lt k; omega⟩ ⟨128 + l.val, by omega⟩ := by
  constructor
  · funext b
    apply Fin.ext
    refine (Rect.idx_unit_val (s := S3584x256) (k0_off4 k) S128x128.size (k0_off4_inb k) (ix2 a l) b).trans ?_
    refine (congrArg (· + (ix2 a l b).val) (congrFun (k0_off4_eq k) b)).trans ?_
    match b with
    | ⟨0, _⟩ => rfl
    | ⟨1, _⟩ => exact Nat.zero_add _
  · funext b
    apply Fin.ext
    refine (Rect.idx_unit_val (s := S3584x256) (k0_off7 k) S128x128.size (k0_off7_inb k) (ix2 a l) b).trans ?_
    refine (congrArg (· + (ix2 a l b).val) (congrFun (k0_off7_eq k) b)).trans ?_
    match b with
    | ⟨0, _⟩ => rfl
    | ⟨1, _⟩ => rfl

/-- A store list that grows by the two halves of one trip after another, each half a part of one array `G`, leaves `G`. -/
theorem read_trips (G : S3584x256.Idx → EReal) (P : ℕ → List (View.Piece (Elt Ideal) S3584x256 .bf16))
    (A B : Fin k0_t1_loop.trips → FVec Ideal S128x128 .bf16) (h0 : P 0 = [])
    (hs : ∀ k : Fin k0_t1_loop.trips, P (k.val + 1) = [⟨half k 1, B k⟩, ⟨half k 0, A k⟩] ++ P k.val)
    (hA : ∀ k (a l : Fin 128), A k (ix2 a l) = G (ix2 ⟨128 * k.val + a.val, by have := trip_lt k; omega⟩ ⟨l.val, by omega⟩))
    (hB : ∀ k (a l : Fin 128), B k (ix2 a l) = G (ix2 ⟨128 * k.val + a.val, by have := trip_lt k; omega⟩ ⟨128 + l.val, by omega⟩))
    {κ : Kind} {sp : Space} (v : View sig κ sp S3584x256 .bf16) :
    v.readCov (P k0_t1_loop.trips) (Rect.unit (s := S3584x256) ![0, 0] S3584x256.size inb_S3584x256_S3584x256_0_0).toLoadRect = G := by
  have key : ∀ n, n ≤ k0_t1_loop.trips →
      (∀ p ∈ P n, ∀ x : p.1.shape.Idx, p.2 x = G (p.1.emb x)) ∧
      (∀ (d : Fin 3584) (o : Fin 256), d.val < 128 * n → ∃ p ∈ P n, (ix2 d o : S3584x256.Idx) ∈ p.1.set) := by
    intro n
    induction n with
    | zero => intro _; rw [h0]; exact ⟨fun p hp => absurd hp List.not_mem_nil, fun d o hd => absurd hd (by omega)⟩
    | succ n ih =>
      intro hn
      obtain ⟨ih1, ih2⟩ := ih (by omega)
      have e := hs ⟨n, hn⟩
      rw [show P (n + 1) = _ from e]
      refine ⟨fun p hp => ?_, fun d o hd => ?_⟩
      · rcases List.mem_append.mp hp with hp | hp
        · rcases List.mem_cons.mp hp with rfl | hp
          · intro x
            obtain ⟨a, l, rfl⟩ : ∃ a l : Fin 128, x = ix2 a l := ⟨x 0, x 1, eq_ix2 x⟩
            exact (hB ⟨n, hn⟩ a l).trans (congrArg G (half_emb ⟨n, hn⟩ a l).2.symm)
          · rw [List.mem_singleton] at hp
            subst hp
            intro x
            obtain ⟨a, l, rfl⟩ : ∃ a l : Fin 128, x = ix2 a l := ⟨x 0, x 1, eq_ix2 x⟩
            exact (hA ⟨n, hn⟩ a l).trans (congrArg G (half_emb ⟨n, hn⟩ a l).1.symm)
        · exact ih1 p hp
      · by_cases hlt : d.val < 128 * n
        · obtain ⟨p, hp, hm⟩ := ih2 d o hlt
          exact ⟨p, List.mem_append_right _ hp, hm⟩
        · by_cases ho : o.val < 128
          · refine ⟨⟨half ⟨n, hn⟩ 0, A ⟨n, hn⟩⟩, by simp, ?_⟩
            have := (half_emb ⟨n, hn⟩ ⟨d.val - 128 * n, by omega⟩ ⟨o.val, ho⟩).1
            rw [show (ix2 d o : S3584x256.Idx) = (half ⟨n, hn⟩ 0).emb (ix2 ⟨d.val - 128 * n, by omega⟩ ⟨o.val, ho⟩) from by
              rw [this]; congr 1; apply Fin.ext; show d.val = 128 * n + (d.val - 128 * n); omega]
            exact (half ⟨n, hn⟩ _).toLoadRect.idx_mem _
          · refine ⟨⟨half ⟨n, hn⟩ 1, B ⟨n, hn⟩⟩, by simp, ?_⟩
            have := (half_emb ⟨n, hn⟩ ⟨d.val - 128 * n, by omega⟩ ⟨o.val - 128, by omega⟩).2
            rw [show (ix2 d o : S3584x256.Idx) = (half ⟨n, hn⟩ 1).emb (ix2 ⟨d.val - 128 * n, by omega⟩ ⟨o.val - 128, by omega⟩) from by
              rw [this]; congr 1 <;> apply Fin.ext
              · show d.val = 128 * n + (d.val - 128 * n); omega
              · show o.val = 128 + (o.val - 128); omega]
            exact (half ⟨n, hn⟩ _).toLoadRect.idx_mem _
  obtain ⟨k1, k2⟩ := key _ le_rfl
  show v.readAt _ _ _ = _
  rw [View.readAt_eq_ld, View.ld_unit_zero (by funext a; match a with | ⟨0, _⟩ => rfl | ⟨1, _⟩ => rfl)]
  funext y
  refine v.read_writes_apply_of_pieces (Val := Elt Ideal) v.junk G _ k1 y ?_
  obtain ⟨d, o, rfl⟩ : ∃ (d : Fin 3584) (o : Fin 256), y = ix2 d o := ⟨y 0, y 1, eq_ix2 y⟩
  exact k2 d o (by rw [trips_eq]; omega)

end Cert.KernelIdeal.Val
end
-- ==== Proof.Tile.lean ====
/- The limb arrays after the decoding loop, as the residuals of the tile. -/
module

public import proofs.«01_k».proof.Proof.Limbs

@[expose] public section

noncomputable section

namespace Cert.KernelIdeal.Val

open Idealize.ShloMosaic Idealize.SL.Sem Idealize.ShloMosaic.TcCoe Cert.KernelIdeal.Gen

section Words
variable {F : FTy → Type} [FloatOps F]

/-- The four stores that spread the tile's codes into words: codebook by codebook, the left half of the rows and then the right. -/
def codeWrites (arg2 : Memref sig .tc .vmem S2x448x256 .i8) (harg2 : arg2.IsWhole) (x1 : Vec F S2x448x256 .i8) :
    List (View.Piece (Elt F) S2x2x448x128 .i32) :=
  [⟨Rect.unit (s := S2x2x448x128) ![1, 1, 0, 0] S1x1x448x128.size inb_S2x2x448x128_S1x1x448x128_1_1_0_0,
      k0_pay158 (View.readAt (Elt F) arg2.view (Rect.unit (s := S2x448x256) ![1, 0, 128] S1x448x128.size inb_S2x448x256_S1x448x128_1_0_128).toLoadRect (harg2.unread x1))⟩,
    ⟨Rect.unit (s := S2x2x448x128) ![1, 0, 0, 0] S1x1x448x128.size inb_S2x2x448x128_S1x1x448x128_1_0_0_0,
      k0_pay157 (View.readAt (Elt F) arg2.view (Rect.unit (s := S2x448x256) ![1, 0, 0] S1x448x128.size inb_S2x448x256_S1x448x128_1_0_0).toLoadRect (harg2.unread x1))⟩,
    ⟨Rect.unit (s := S2x2x448x128) ![0, 1, 0, 0] S1x1x448x128.size inb_S2x2x448x128_S1x1x448x128_0_1_0_0,
      k0_pay156 (View.readAt (Elt F) arg2.view (Rect.unit (s := S2x448x256) ![0, 0, 128] S1x448x128.size inb_S2x448x256_S1x448x128_0_0_128).toLoadRect (harg2.unread x1))⟩,
    ⟨Rect.unit (s := S2x2x448x128) ![0, 0, 0, 0] S1x1x448x128.size inb_S2x2x448x128_S1x1x448x128_0_0_0_0,
      k0_pay155 (View.readAt (Elt F) arg2.view (Rect.unit (s := S2x448x256) ![0, 0, 0] S1x448x128.size inb_S2x448x256_S1x448x128_0_0_0).toLoadRect (harg2.unread x1))⟩]
end Words

/-- The word array as one function: the code of the row, widened. -/
def wordOf (x1 : Vec Ideal S2x448x256 .i8) (y : S2x2x448x128.Idx) : BitVec 32 :=
  (x1 (ix3 (y 0) (y 2) ⟨128 * (y 1).val + (y 3).val, by have h1 : (y 1).val < 2 := (y 1).isLt; have h3 : (y 3).val < 128 := (y 3).isLt; omega⟩)).setWidth 32

/-- A load of 448 x 128 codes at codebook `m` and half `h`. -/
theorem ld_codes (x1 : Vec Ideal S2x448x256 .i8) (m h : Fin 2) (inb) (g : Fin 448) (l : Fin 128) :
    View.ld x1 (Rect.unit (s := S2x448x256) ![m.val, 0, 128 * h.val] S1x448x128.size inb) (ix3 0 g l)
      = x1 (ix3 m g ⟨128 * h.val + l.val, by omega⟩) := by
  refine View.ld_unit_apply_of x1 _ _ inb _ _ fun a => ?_
  match a with
  | ⟨0, _⟩ => rfl
  | ⟨1, _⟩ => exact (Nat.zero_add _).symm
  | ⟨2, _⟩ => rfl

/-- The four spreading payloads are one: each code widened to a word. -/
theorem spread_apply (v : Vec Ideal S1x448x128 .i8) (g : Fin 448) (l : Fin 128) :
    k0_pay158 v (ix4 0 0 g l) = (v (ix3 0 g l)).setWidth 32 := by
  unfold k0_pay158
  pointwise

/-- Where the store at codebook `m` and half `h` puts its element. -/
theorem emb_word (m h : Fin 2) (inb) (g : Fin 448) (l : Fin 128) :
    (Rect.unit (s := S2x2x448x128) ![m.val, h.val, 0, 0] S1x1x448x128.size inb).emb (ix4 0 0 g l) = ix4 m h g l := by
  funext b
  apply Fin.ext
  refine (Rect.idx_unit_val (s := S2x2x448x128) _ S1x1x448x128.size inb (ix4 0 0 g l) b).trans ?_
  match b with
  | ⟨0, _⟩ => rfl
  | ⟨1, _⟩ => rfl
  | ⟨2, _⟩ => exact Nat.zero_add _
  | ⟨3, _⟩ => exact Nat.zero_add _

/-- Every index of one store of words has leading coordinates zero. -/
theorem eq_ix4_word (x : S1x1x448x128.Idx) : ∃ (g : Fin 448) (l : Fin 128), x = ix4 0 0 g l := by
  refine ⟨x 2, x 3, (eq_ix4 x).trans ?_⟩
  congr 1 <;> exact Subsingleton.elim (α := Fin 1) _ _

/-- The word array holds the widened codes. -/
theorem words_read {κ : Kind} {sp : Space} (v : View sig κ sp S2x2x448x128 .i32) (arg2 : Memref sig .tc .vmem S2x448x256 .i8) (harg2 : arg2.IsWhole)
    (x1 : Vec Ideal S2x448x256 .i8) : v.read (Elt Ideal) (v.writes (Elt Ideal) v.junk (codeWrites arg2 harg2 x1)) = wordOf x1 := by
  have piece : ∀ (m h : Fin 2) (inb) (inb'), ∀ x : S1x1x448x128.Idx,
      k0_pay158 (F := Ideal) (View.readAt (Elt Ideal) arg2.view (Rect.unit (s := S2x448x256) ![m.val, 0, 128 * h.val] S1x448x128.size inb').toLoadRect (harg2.unread x1)) x
        = wordOf x1 ((Rect.unit (s := S2x2x448x128) ![m.val, h.val, 0, 0] S1x1x448x128.size inb).emb x) := by
    intro m h inb inb' x
    obtain ⟨g, l, rfl⟩ := eq_ix4_word x
    refine (spread_apply _ g l).trans ?_
    rw [emb_word m h inb g l, View.readAt_eq_ld, harg2.read_unread, ld_codes]
    rfl
  funext y
  refine v.read_writes_apply_of_pieces (Val := Elt Ideal) v.junk (wordOf x1) _ ?_ y ?_
  · intro p hp
    simp only [codeWrites, List.mem_cons, List.not_mem_nil, or_false] at hp
    rcases hp with rfl | rfl | rfl | rfl
    · exact piece 1 1 inb_S2x2x448x128_S1x1x448x128_1_1_0_0 inb_S2x448x256_S1x448x128_1_0_128
    · exact piece 1 0 inb_S2x2x448x128_S1x1x448x128_1_0_0_0 inb_S2x448x256_S1x448x128_1_0_0
    · exact piece 0 1 inb_S2x2x448x128_S1x1x448x128_0_1_0_0 inb_S2x448x256_S1x448x128_0_0_128
    · exact piece 0 0 inb_S2x2x448x128_S1x1x448x128_0_0_0_0 inb_S2x448x256_S1x448x128_0_0_0
  · obtain ⟨m, h, g, l, rfl⟩ : ∃ (m h : Fin 2) (g : Fin 448) (l : Fin 128), y = ix4 m h g l := ⟨y 0, y 1, y 2, y 3, eq_ix4 y⟩
    have mem : ∀ inb, (ix4 m h g l : S2x2x448x128.Idx) ∈ (Rect.unit (s := S2x2x448x128) ![m.val, h.val, 0, 0] S1x1x448x128.size inb).set := by
      intro inb
      rw [← emb_word m h inb g l]
      exact (Rect.unit (s := S2x2x448x128) _ S1x1x448x128.size inb).toLoadRect.idx_mem _
    unfold codeWrites
    fin_cases m <;> fin_cases h
    · exact ⟨_, .tail _ (.tail _ (.tail _ (.head _))), mem inb_S2x2x448x128_S1x1x448x128_0_0_0_0⟩
    · exact ⟨_, .tail _ (.tail _ (.head _)), mem inb_S2x2x448x128_S1x1x448x128_0_1_0_0⟩
    · exact ⟨_, .tail _ (.head _), mem inb_S2x2x448x128_S1x1x448x128_1_0_0_0⟩
    · exact ⟨_, .head _, mem inb_S2x2x448x128_S1x1x448x128_1_1_0_0⟩

section Tile
variable (arg1 : Memref sig .tc .vmem S256x3584 .bf16) (harg1 : arg1.IsWhole) (arg2 : Memref sig .tc .vmem S2x448x256 .i8) (harg2 : arg2.IsWhole)
  (arg3 : Memref sig .tc .vmem S2x8x256 .bf16) (harg3 : arg3.IsWhole) (arg4 : Memref sig .tc .vmem S1x256 .f32) (harg4 : arg4.IsWhole)
  (arg9 : Memref sig .tc .vmem S2x2x448x128 .i32)
  (x0 : Vec Ideal S256x3584 .bf16) (x1 : Vec Ideal S2x448x256 .i8) (x2 : Vec Ideal S2x8x256 .bf16) (x3 : Vec Ideal S1x256 .f32)

/-- The loads of the two codebooks. -/
def book0 : Vec Ideal S1x8x256 .bf16 :=
  View.readAt (Elt Ideal) arg3.view (Rect.unit (s := S2x8x256) ![0, 0, 0] S1x8x256.size inb_S2x8x256_S1x8x256_0_0_0).toLoadRect (harg3.unread x2)
@[inherit_doc book0] def book1 : Vec Ideal S1x8x256 .bf16 :=
  View.readAt (Elt Ideal) arg3.view (Rect.unit (s := S2x8x256) ![1, 0, 0] S1x8x256.size inb_S2x8x256_S1x8x256_1_0_0).toLoadRect (harg3.unread x2)

theorem book0_apply (s : Fin 8) (n : Fin 256) : book0 arg3 harg3 x2 (ix3 0 s n) = x2 (ix3 0 s n) := by
  unfold book0
  rw [View.readAt_eq_ld, harg3.read_unread]
  refine View.ld_unit_apply_of x2 _ _ _ _ _ fun a => ?_
  match a with
  | ⟨0, _⟩ => rfl
  | ⟨1, _⟩ => exact (Nat.zero_add _).symm
  | ⟨2, _⟩ => exact (Nat.zero_add _).symm

theorem book1_apply (s : Fin 8) (n : Fin 256) : book1 arg3 harg3 x2 (ix3 0 s n) = x2 (ix3 1 s n) := by
  unfold book1
  rw [View.readAt_eq_ld, harg3.read_unread]
  refine View.ld_unit_apply_of x2 _ _ _ _ _ fun a => ?_
  match a with
  | ⟨0, _⟩ => rfl
  | ⟨1, _⟩ => exact (Nat.zero_add _).symm
  | ⟨2, _⟩ => exact (Nat.zero_add _).symm

/-- The block of weights trip `k` reads, at a column of the block and a row of the tile. -/
theorem wblock_apply (k : Fin k0_t1_loop.trips) (a : Fin 128) (o : Fin 256) :
    wblock (F := Ideal) arg1 (harg1.unread x0) k (ix2 a o) = x0 (ix2 o ⟨128 * k.val + a.val, by have := trip_lt k; omega⟩) := by
  have tr : ∀ v : Vec Ideal S256x128 .bf16, k0_pay1 (F := Ideal) v (ix2 a o) = v (ix2 o a) := by
    intro v; unfold k0_pay1; pointwise
  unfold wblock
  rw [tr, View.readAt_eq_ld, harg1.read_unread]
  refine View.ld_unit_apply_of x0 _ _ _ _ _ fun b => ?_
  refine Eq.trans ?_ (congrArg (· + (ix2 o a b).val) (congrFun (k0_off1_eq k) b)).symm
  match b with
  | ⟨0, _⟩ => exact (Nat.zero_add _).symm
  | ⟨1, _⟩ => rfl

/-- A row of words trip `k` reads. -/
theorem word_apply (m h : Fin 2) (g : Fin 448) (off : Fin 4 → Nat) (ho : off = ![m.val, h.val, g.val, 0]) (inb) (l : Fin 128) :
    View.readAt (Elt Ideal) arg9.view (Rect.unit (s := S2x2x448x128) off S1x1x1x128.size inb).toLoadRect
      (arg9.view.writes (Elt Ideal) arg9.view.junk (codeWrites arg2 harg2 x1)) (ix4 0 0 0 l)
      = (x1 (ix3 m g ⟨128 * h.val + l.val, by omega⟩)).setWidth 32 := by
  subst ho
  rw [View.readAt_eq_ld, words_read]
  refine (View.ld_unit_apply_of (Val := Elt Ideal) (e := .i32) (wordOf x1) _ _ inb _ (ix4 m h g l) fun b => ?_).trans rfl
  match b with
  | ⟨0, _⟩ => rfl
  | ⟨1, _⟩ => rfl
  | ⟨2, _⟩ => rfl
  | ⟨3, _⟩ => exact (Nat.zero_add _).symm

/-- The left half's residual of trip `k` is the tile's residual there. -/
theorem resid0_apply (k : Fin k0_t1_loop.trips) (a l : Fin 128) :
    resid0 (F := Ideal) arg1 arg4 arg9 (book0 arg3 harg3 x2) (book1 arg3 harg3 x2) (harg1.unread x0) (harg4.unread x3)
      (arg9.view.writes (Elt Ideal) arg9.view.junk (codeWrites arg2 harg2 x1)) k (ix2 a l)
      = tileRes x0 x1 x2 x3 ⟨128 * k.val + a.val, by have := trip_lt k; omega⟩ ⟨l.val, by omega⟩ := by
  have hk := trip_lt k
  have rs : k0_pay2 (F := Ideal) (arg4.view.readAt (Elt Ideal) (Rect.unit (s := S1x256) ![0, 0] S1x128.size inb_S1x256_S1x128_0_0).toLoadRect (harg4.unread x3)) (ix2 0 l)
      = x3 (ix2 0 ⟨l.val, by omega⟩) := by
    have id : ∀ v : Vec Ideal S1x128 .f32, k0_pay2 (F := Ideal) v (ix2 0 l) = v (ix2 0 l) := by
      intro v; unfold k0_pay2; pointwise
    rw [id, View.readAt_eq_ld, harg4.read_unread]
    refine View.ld_unit_apply_of x3 _ _ _ _ _ fun b => ?_
    match b with
    | ⟨0, _⟩ => rfl
    | ⟨1, _⟩ => exact (Nat.zero_add _).symm
  unfold resid0
  refine (resid_apply 0 _ _ _ _ _ _ a l (x1 (ix3 0 ⟨16 * k.val + a.val / 8, by omega⟩ ⟨128 * 0 + l.val, by omega⟩))
    (x1 (ix3 1 ⟨16 * k.val + a.val / 8, by omega⟩ ⟨128 * 0 + l.val, by omega⟩)) ?_ ?_).trans ?_
  · exact word_apply arg2 harg2 arg9 x1 0 0 ⟨16 * k.val + a.val / 8, by omega⟩ _ (k0_off2_eq k ⟨a.val / 8, by omega⟩) _ l
  · exact word_apply arg2 harg2 arg9 x1 1 0 ⟨16 * k.val + a.val / 8, by omega⟩ _ (k0_off3_eq k ⟨a.val / 8, by omega⟩) _ l
  rw [wblock_apply, book0_apply, book1_apply, rs]
  unfold tileRes
  have e1 : (⟨128 * (0 : Fin 2).val + l.val, by omega⟩ : Fin 256) = ⟨l.val, by omega⟩ := Fin.ext (by show 128 * 0 + l.val = l.val; omega)
  have e2 : (⟨128 * 0 + l.val, by omega⟩ : Fin 256) = ⟨l.val, by omega⟩ := Fin.ext (by show 128 * 0 + l.val = l.val; omega)
  have e3 : (⟨(128 * k.val + a.val) % 8, by omega⟩ : Fin 8) = ⟨a.val % 8, by omega⟩ := Fin.ext (by show (128 * k.val + a.val) % 8 = a.val % 8; omega)
  have e4 : (⟨(128 * k.val + a.val) / 8, by omega⟩ : Fin 448) = ⟨16 * k.val + a.val / 8, by omega⟩ :=
    Fin.ext (by show (128 * k.val + a.val) / 8 = 16 * k.val + a.val / 8; omega)
  simp only [e1, e2, e3, e4]

/-- The right half's residual of trip `k` is the tile's residual there. -/
theorem resid1_apply (k : Fin k0_t1_loop.trips) (a l : Fin 128) :
    resid1 (F := Ideal) arg1 arg4 arg9 (book0 arg3 harg3 x2) (book1 arg3 harg3 x2) (harg1.unread x0) (harg4.unread x3)
      (arg9.view.writes (Elt Ideal) arg9.view.junk (codeWrites arg2 harg2 x1)) k (ix2 a l)
      = tileRes x0 x1 x2 x3 ⟨128 * k.val + a.val, by have := trip_lt k; omega⟩ ⟨128 + l.val, by omega⟩ := by
  have hk := trip_lt k
  have rs : k0_pay80 (F := Ideal) (arg4.view.readAt (Elt Ideal) (Rect.unit (s := S1x256) ![0, 128] S1x128.size inb_S1x256_S1x128_0_128).toLoadRect (harg4.unread x3)) (ix2 0 l)
      = x3 (ix2 0 ⟨128 + l.val, by omega⟩) := by
    have id : ∀ v : Vec Ideal S1x128 .f32, k0_pay80 (F := Ideal) v (ix2 0 l) = v (ix2 0 l) := by
      intro v; unfold k0_pay80; pointwise
    rw [id, View.readAt_eq_ld, harg4.read_unread]
    refine View.ld_unit_apply_of x3 _ _ _ _ _ fun b => ?_
    match b with
    | ⟨0, _⟩ => rfl
    | ⟨1, _⟩ => rfl
  unfold resid1
  refine (resid_apply 1 _ _ _ _ _ _ a l (x1 (ix3 0 ⟨16 * k.val + a.val / 8, by omega⟩ ⟨128 * 1 + l.val, by omega⟩))
    (x1 (ix3 1 ⟨16 * k.val + a.val / 8, by omega⟩ ⟨128 * 1 + l.val, by omega⟩)) ?_ ?_).trans ?_
  · exact word_apply arg2 harg2 arg9 x1 0 1 ⟨16 * k.val + a.val / 8, by omega⟩ _ (k0_off5_eq k ⟨a.val / 8, by omega⟩) _ l
  · exact word_apply arg2 harg2 arg9 x1 1 1 ⟨16 * k.val + a.val / 8, by omega⟩ _ (k0_off6_eq k ⟨a.val / 8, by omega⟩) _ l
  rw [wblock_apply, book0_apply, book1_apply, rs]
  unfold tileRes
  have e1 : (⟨128 * (1 : Fin 2).val + l.val, by omega⟩ : Fin 256) = ⟨128 + l.val, by omega⟩ := rfl
  have e2 : (⟨128 * 1 + l.val, by omega⟩ : Fin 256) = ⟨128 + l.val, by omega⟩ := rfl
  have e3 : (⟨(128 * k.val + a.val) % 8, by omega⟩ : Fin 8) = ⟨a.val % 8, by omega⟩ := Fin.ext (by show (128 * k.val + a.val) % 8 = a.val % 8; omega)
  have e4 : (⟨(128 * k.val + a.val) / 8, by omega⟩ : Fin 448) = ⟨16 * k.val + a.val / 8, by omega⟩ :=
    Fin.ext (by show (128 * k.val + a.val) / 8 = 16 * k.val + a.val / 8; omega)
  simp only [e1, e2, e3, e4]
end Tile

/-- Over the extended reals a limb is the block itself. -/
theorem limb_apply (r : FVec Ideal S128x128 .f32) (a l : Fin 128) : limb (F := Ideal) r (ix2 a l) = r (ix2 a l) := by
  unfold limb; pointwise

/-- Over the extended reals what a limb leaves of the block is the block minus itself. -/
theorem rest_apply (r : FVec Ideal S128x128 .f32) (j : S128x128.Idx) : rest (F := Ideal) r j = r j - r j := rfl

set_option maxRecDepth 65536 in
/-- After the loop the three limb arrays hold the tile's residual, the residual minus itself, and that minus itself. -/
theorem limbs_eq (𝒱 : Variants) (c : Dev nD) (bd : Option 𝒱.V) (i : grid0.Coords) (arg1 : Memref sig .tc .vmem S256x3584 .bf16) (harg1 : arg1.IsWhole) (arg2 : Memref sig .tc .vmem S2x448x256 .i8) (harg2 : arg2.IsWhole) (arg3 : Memref sig .tc .vmem S2x8x256 .bf16) (harg3 : arg3.IsWhole) (arg4 : Memref sig .tc .vmem S1x256 .f32) (harg4 : arg4.IsWhole) (arg5 : Memref sig .tc .vmem S4096x3584 .bf16) (harg5 : arg5.IsWhole) (arg6 : Memref sig .tc .vmem S32x256 .f32) (harg6 : arg6.IsWhole) (arg7 : Memref sig .tc .vmem S1x256 .f32) (harg7 : arg7.IsWhole) (arg8 : Memref sig .tc .smem S1x1 .f32) (harg8 : arg8.IsWhole) (arg9 : Memref sig .tc .vmem S2x2x448x128 .i32) (harg9 : arg9.IsWhole) (arg10 : Memref sig .tc .vmem S3584x256 .bf16) (harg10 : arg10.IsWhole) (arg11 : Memref sig .tc .vmem S3584x256 .bf16) (harg11 : arg11.IsWhole) (arg12 : Memref sig .tc .vmem S3584x256 .bf16) (harg12 : arg12.IsWhole) (arg13 : Memref sig .tc .vmem S1x256 .f32) (harg13 : arg13.IsWhole)
    (x0 : Vec Ideal S256x3584 .bf16) (x1 : Vec Ideal S2x448x256 .i8) (x2 : Vec Ideal S2x8x256 .bf16) (x3 : Vec Ideal S1x256 .f32) :
    let L := pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13  (book0 arg3 harg3 x2) (book1 arg3 harg3 x2) (harg1.unread x0) (harg4.unread x3)
      (arg9.view.writes (Elt Ideal) arg9.view.junk (codeWrites arg2 harg2 x1)) k0_t1_loop.trips
    arg10.view.readCov L.1 (Rect.unit (s := S3584x256) ![0, 0] S3584x256.size inb_S3584x256_S3584x256_0_0).toLoadRect
        = (fun j => tileRes x0 x1 x2 x3 (j 0) (j 1)) ∧
      arg11.view.readCov L.2.1 (Rect.unit (s := S3584x256) ![0, 0] S3584x256.size inb_S3584x256_S3584x256_0_0).toLoadRect
        = (fun j => tileRes x0 x1 x2 x3 (j 0) (j 1) - tileRes x0 x1 x2 x3 (j 0) (j 1)) ∧
      arg12.view.readCov L.2.2 (Rect.unit (s := S3584x256) ![0, 0] S3584x256.size inb_S3584x256_S3584x256_0_0).toLoadRect
        = (fun j => (tileRes x0 x1 x2 x3 (j 0) (j 1) - tileRes x0 x1 x2 x3 (j 0) (j 1)) - (tileRes x0 x1 x2 x3 (j 0) (j 1) - tileRes x0 x1 x2 x3 (j 0) (j 1))) := by
  have step := fun k => (pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13  (book0 arg3 harg3 x2) (book1 arg3 harg3 x2) (harg1.unread x0) (harg4.unread x3)
      (arg9.view.writes (Elt Ideal) arg9.view.junk (codeWrites arg2 harg2 x1)) k).trans
    (congrArg (fun T => (T.1 ++ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13  (book0 arg3 harg3 x2) (book1 arg3 harg3 x2) (harg1.unread x0) (harg4.unread x3)
      (arg9.view.writes (Elt Ideal) arg9.view.junk (codeWrites arg2 harg2 x1)) k.val).1, T.2.1 ++ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13  (book0 arg3 harg3 x2) (book1 arg3 harg3 x2) (harg1.unread x0) (harg4.unread x3)
      (arg9.view.writes (Elt Ideal) arg9.view.junk (codeWrites arg2 harg2 x1)) k.val).2.1, T.2.2 ++ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13  (book0 arg3 harg3 x2) (book1 arg3 harg3 x2) (harg1.unread x0) (harg4.unread x3)
      (arg9.view.writes (Elt Ideal) arg9.view.junk (codeWrites arg2 harg2 x1)) k.val).2.2)) (trip_eq (F := Ideal) 𝒱 c bd i arg1 harg1 arg2 harg2 arg3 harg3 arg4 harg4 arg5 harg5 arg6 harg6 arg7 harg7 arg8 harg8 arg9 harg9 arg10 harg10 arg11 harg11 arg12 harg12 arg13 harg13  (book0 arg3 harg3 x2) (book1 arg3 harg3 x2) (harg1.unread x0) (harg4.unread x3)
      (arg9.view.writes (Elt Ideal) arg9.view.junk (codeWrites arg2 harg2 x1)) k))
  have r0 := resid0_apply arg1 harg1 arg2 harg2 arg3 harg3 arg4 harg4 arg9 x0 x1 x2 x3
  have r1 := resid1_apply arg1 harg1 arg2 harg2 arg3 harg3 arg4 harg4 arg9 x0 x1 x2 x3
  dsimp only
  refine ⟨?_, ?_, ?_⟩
  · refine read_trips _ (fun n => (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13  (book0 arg3 harg3 x2) (book1 arg3 harg3 x2) (harg1.unread x0) (harg4.unread x3)
      (arg9.view.writes (Elt Ideal) arg9.view.junk (codeWrites arg2 harg2 x1)) n).1) _ _ rfl (fun k => congrArg (·.1) (step k)) (fun k a l => ?_) (fun k a l => ?_) _
    · exact (limb_apply _ a l).trans (r0 k a l)
    · exact (limb_apply _ a l).trans (r1 k a l)
  · refine read_trips _ (fun n => (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13  (book0 arg3 harg3 x2) (book1 arg3 harg3 x2) (harg1.unread x0) (harg4.unread x3)
      (arg9.view.writes (Elt Ideal) arg9.view.junk (codeWrites arg2 harg2 x1)) n).2.1) _ _ rfl (fun k => congrArg (·.2.1) (step k)) (fun k a l => ?_) (fun k a l => ?_) _
    · exact (limb_apply _ a l).trans (by rw [rest_apply, r0 k a l]; rfl)
    · exact (limb_apply _ a l).trans (by rw [rest_apply, r1 k a l]; rfl)
  · refine read_trips _ (fun n => (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13  (book0 arg3 harg3 x2) (book1 arg3 harg3 x2) (harg1.unread x0) (harg4.unread x3)
      (arg9.view.writes (Elt Ideal) arg9.view.junk (codeWrites arg2 harg2 x1)) n).2.2) _ _ rfl (fun k => congrArg (·.2.2) (step k)) (fun k a l => ?_) (fun k a l => ?_) _
    · exact (limb_apply _ a l).trans (by rw [rest_apply, rest_apply, r0 k a l]; rfl)
    · exact (limb_apply _ a l).trans (by rw [rest_apply, rest_apply, r1 k a l]; rfl)

end Cert.KernelIdeal.Val
end
-- ==== Proof.Sq.lean ====
/- The square of a sum of three limb products is the square of the exact product, over the extended reals: the
   second and third limbs are what the first leaves, which is zero unless the value is infinite, and then both
   squares are infinite. -/
module

public import Mathlib.Data.EReal.Operations
public import Mathlib.Algebra.BigOperators.Ring.Finset

@[expose] public section

namespace Cert.Sq

/-- Adding to an infinite value leaves it infinite. -/
theorem add_inf (a b : EReal) (h : a = ⊤ ∨ a = ⊥) : a + b = ⊤ ∨ a + b = ⊥ := by
  rcases h with rfl | rfl
  · rcases eq_or_ne b ⊥ with rfl | hb
    · exact .inr (EReal.add_bot _)
    · exact .inl (EReal.top_add_of_ne_bot hb)
  · exact .inr (EReal.bot_add _)

/-- A sum with an infinite summand is infinite. -/
theorem sum_inf {ι : Type*} (s : Finset ι) (f : ι → EReal) (i : ι) (hi : i ∈ s) (h : f i = ⊤ ∨ f i = ⊥) :
    ∑ j ∈ s, f j = ⊤ ∨ ∑ j ∈ s, f j = ⊥ := by
  classical
  rw [← Finset.add_sum_erase s f hi]
  exact add_inf _ _ h

/-- Squaring forgets the sign of an infinite value. -/
theorem sq_inf (a : EReal) (h : a = ⊤ ∨ a = ⊥) : a * a = ⊤ := by
  rcases h with rfl | rfl
  · exact EReal.top_mul_top
  · exact EReal.bot_mul_bot

/-- A value whose product with an infinite one is finite is zero. -/
theorem eq_zero_of_mul_inf (x r : EReal) (hr : r = ⊤ ∨ r = ⊥) (h : ¬ (x * r = ⊤ ∨ x * r = ⊥)) : x = 0 := by
  rcases lt_trichotomy x 0 with hx | hx | hx
  · rcases hr with rfl | rfl
    · exact absurd (.inr (EReal.mul_top_of_neg hx)) h
    · exact absurd (.inl (EReal.mul_bot_of_neg hx)) h
  · exact hx
  · rcases hr with rfl | rfl
    · exact absurd (.inl (EReal.mul_top_of_pos hx)) h
    · exact absurd (.inr (EReal.mul_bot_of_pos hx)) h

/-- A finite value leaves nothing of itself. -/
theorem sub_self_of_finite (r : EReal) (h : ¬ (r = ⊤ ∨ r = ⊥)) : r - r = 0 :=
  EReal.sub_self (fun e => h (.inl e)) (fun e => h (.inr e))

/-- Where a product is finite, the products with what the first and the second limb leave are zero. -/
theorem rest_mul (x r : EReal) (h : ¬ (x * r = ⊤ ∨ x * r = ⊥)) :
    x * (r - r) = 0 ∧ x * ((r - r) - (r - r)) = 0 := by
  by_cases hr : r = ⊤ ∨ r = ⊥
  · rw [eq_zero_of_mul_inf x r hr h]; exact ⟨zero_mul _, zero_mul _⟩
  · rw [sub_self_of_finite r hr, sub_zero]; exact ⟨mul_zero _, mul_zero _⟩

/-- The square of the three limb products' sum is the square of the product itself. -/
theorem sq_limbs {ι : Type*} (s : Finset ι) (x r : ι → EReal) :
    (∑ i ∈ s, x i * r i + ∑ i ∈ s, x i * (r i - r i) + ∑ i ∈ s, x i * ((r i - r i) - (r i - r i)))
      * (∑ i ∈ s, x i * r i + ∑ i ∈ s, x i * (r i - r i) + ∑ i ∈ s, x i * ((r i - r i) - (r i - r i)))
    = (∑ i ∈ s, r i * x i) * (∑ i ∈ s, r i * x i) := by
  rw [show ∑ i ∈ s, r i * x i = ∑ i ∈ s, x i * r i from Finset.sum_congr rfl fun i _ => EReal.mul_comm _ _]
  by_cases h : ∃ i ∈ s, x i * r i = ⊤ ∨ x i * r i = ⊥
  · obtain ⟨i, hi, h⟩ := h
    have hs := sum_inf s (fun i => x i * r i) i hi h
    rw [sq_inf _ (add_inf _ _ (add_inf _ _ hs)), sq_inf _ hs]
  · push Not at h
    have hf : ∀ i ∈ s, ¬ (x i * r i = ⊤ ∨ x i * r i = ⊥) := fun i hi e => e.elim (h i hi).1 (h i hi).2
    rw [Finset.sum_eq_zero fun i hi => (rest_mul _ _ (hf i hi)).1,
      Finset.sum_eq_zero fun i hi => (rest_mul _ _ (hf i hi)).2, add_zero, add_zero]

end Cert.Sq

end
-- ==== Proof.Chunk.lean ====
/- What one tile computes from its limb arrays: the energies of its rows over the 32 runs of tokens, their sums over the runs, and
   the accumulated sum over tiles. -/
module

public import proofs.«01_k».proof.Proof.Tile
public import proofs.«01_k».proof.Proof.Sq

@[expose] public section

noncomputable section

namespace Cert.KernelIdeal.Val

open Idealize.ShloMosaic Idealize.SL.Sem Idealize.ShloMosaic.TcCoe Cert.KernelIdeal.Gen

section Tile
variable (x0 : Vec Ideal S256x3584 .bf16) (x1 : Vec Ideal S2x448x256 .i8) (x2 : Vec Ideal S2x8x256 .bf16) (x3 : Vec Ideal S1x256 .f32)
  (x4 : Vec Ideal S4096x3584 .bf16)

/-- The tile's residual applied to token `t`, at row `o` of the tile. -/
def tileZ (o : Fin 256) (t : Fin 4096) : EReal := ∑ d : Fin 3584, tileRes x0 x1 x2 x3 d o * x4 (ix2 t d)

/-- The energy of row `o` over the 128 tokens of run `r`, divided by the number of tokens. -/
def tileRun (r : Fin 32) (o : Fin 256) : EReal :=
  Ideal.div (∑ u : Fin 128, tileZ x0 x1 x2 x3 x4 o ⟨128 * r.val + u.val, by omega⟩ * tileZ x0 x1 x2 x3 x4 o ⟨128 * r.val + u.val, by omega⟩)
    (Ideal.ofBits .f32 0x45800000#32)

/-- The energy of row `o` over all runs. -/
def tileE (o : Fin 256) : EReal := ∑ r : Fin 32, tileRun x0 x1 x2 x3 x4 r o

/-- The first limb array. -/
def limb0 (j : S3584x256.Idx) : EReal := tileRes x0 x1 x2 x3 (j 0) (j 1)
/-- The second limb array. -/
def limb1 (j : S3584x256.Idx) : EReal := tileRes x0 x1 x2 x3 (j 0) (j 1) - tileRes x0 x1 x2 x3 (j 0) (j 1)
/-- The third limb array. -/
def limb2 (j : S3584x256.Idx) : EReal :=
  (tileRes x0 x1 x2 x3 (j 0) (j 1) - tileRes x0 x1 x2 x3 (j 0) (j 1)) - (tileRes x0 x1 x2 x3 (j 0) (j 1) - tileRes x0 x1 x2 x3 (j 0) (j 1))
end Tile

/-- The second chunk's payload is the first's. -/
theorem chunk1_eq (x : Vec Ideal S1024x3584 .bf16) (l0 l1 l2 : Vec Ideal S3584x256 .bf16) :
    k0_pay172 (F := Ideal) (k0_pay170 x) (k0_pay171 x l0) l1 l2 = k0_pay169 x l0 l1 l2 := rfl
/-- The third chunk's payload is the first's. -/
theorem chunk2_eq (x : Vec Ideal S1024x3584 .bf16) (l0 l1 l2 : Vec Ideal S3584x256 .bf16) :
    k0_pay173 (F := Ideal) x l0 l1 l2 = k0_pay169 x l0 l1 l2 := rfl
/-- The fourth chunk's payload is the first's. -/
theorem chunk3_eq (x : Vec Ideal S1024x3584 .bf16) (l0 l1 l2 : Vec Ideal S3584x256 .bf16) :
    k0_pay175 (F := Ideal) (k0_pay174 x) l0 l1 l2 = k0_pay169 x l0 l1 l2 := rfl

/-- Eight runs of a chunk of tokens, computed from the three limb arrays: the sum of squares of the residual's own products. -/
theorem chunk_apply (x0 : Vec Ideal S256x3584 .bf16) (x1 : Vec Ideal S2x448x256 .i8) (x2 : Vec Ideal S2x8x256 .bf16) (x3 : Vec Ideal S1x256 .f32)
    (x4 : Vec Ideal S4096x3584 .bf16) (q : Fin 4) (x : Vec Ideal S1024x3584 .bf16)
    (hx : ∀ (t : Fin 1024) (d : Fin 3584), x (ix2 t d) = x4 (ix2 ⟨1024 * q.val + t.val, by omega⟩ d)) (r : Fin 8) (o : Fin 256) :
    k0_pay169 (F := Ideal) x (limb0 x0 x1 x2 x3) (limb1 x0 x1 x2 x3) (limb2 x0 x1 x2 x3) (ix2 r o)
      = tileRun x0 x1 x2 x3 x4 ⟨8 * q.val + r.val, by omega⟩ o := by
  unfold k0_pay169
  pointwise
  unfold tileRun
  refine congrArg (Ideal.div · _) (Finset.sum_congr rfl fun u _ => ?_)
  refine (Sq.sq_limbs Finset.univ _ (fun d => tileRes x0 x1 x2 x3 d o)).trans ?_
  have e : ∀ d : Fin 3584, x (ix2 ⟨r.val * 128 + u.val, by omega⟩ d) = x4 (ix2 ⟨128 * (8 * q.val + r.val) + u.val, by omega⟩ d) := fun d => by
    rw [hx]; congr 2; apply Fin.ext; show 1024 * q.val + (r.val * 128 + u.val) = 128 * (8 * q.val + r.val) + u.val; omega
  simp only [e]
  rfl

/-- The sum over the runs. -/
theorem energy_apply (v : Vec Ideal S32x256 .f32) (o : Fin 256) :
    k0_pay176 (F := Ideal) v (ix2 0 o) = ∑ r : Fin 32, v (ix2 r o) := by
  unfold k0_pay176
  pointwise

/-- The accumulator starts at zero. -/
theorem zeros_apply (o : Fin 256) : k0_pay177 (F := Ideal) (ix2 0 o) = 0 := by
  unfold k0_pay177
  pointwise

/-- The accumulator grows by the tile's energies. -/
theorem accum_apply (v : Vec Ideal S32x256 .f32) (w : Vec Ideal S1x256 .f32) (o : Fin 256) :
    k0_pay178 (F := Ideal) v w (ix2 0 o) = w (ix2 0 o) + k0_pay176 (F := Ideal) v (ix2 0 o) := by
  unfold k0_pay178
  pointwise

/-- The total is the sum of the accumulator's rows. -/
theorem total_apply (v : Vec Ideal S1x256 .f32) : k0_pay179 (F := Ideal) v = ∑ o : Fin 256, v (ix2 0 o) := by
  unfold k0_pay179
  pointwise
  exact Fin.sum_univ_one _

section Runs
variable (arg5 : Memref sig .tc .vmem S4096x3584 .bf16) (harg5 : arg5.IsWhole) (x4 : Vec Ideal S4096x3584 .bf16)

/-- The stores of the four chunks' energies, the last first. -/
def runWrites (l0 l1 l2 : Vec Ideal S3584x256 .bf16) : List (View.Piece (Elt Ideal) S32x256 .f32) :=
  [⟨Rect.unit (s := S32x256) ![24, 0] S8x256.size inb_S32x256_S8x256_24_0, k0_pay175 (k0_pay174 (View.readAt (Elt Ideal) arg5.view (Rect.unit (s := S4096x3584) ![3072, 0] S1024x3584.size inb_S4096x3584_S1024x3584_3072_0).toLoadRect (harg5.unread x4))) l0 l1 l2⟩,
    ⟨Rect.unit (s := S32x256) ![16, 0] S8x256.size inb_S32x256_S8x256_16_0, k0_pay173 (View.readAt (Elt Ideal) arg5.view (Rect.unit (s := S4096x3584) ![2048, 0] S1024x3584.size inb_S4096x3584_S1024x3584_2048_0).toLoadRect (harg5.unread x4)) l0 l1 l2⟩,
    ⟨Rect.unit (s := S32x256) ![8, 0] S8x256.size inb_S32x256_S8x256_8_0, k0_pay172 (k0_pay170 (View.readAt (Elt Ideal) arg5.view (Rect.unit (s := S4096x3584) ![1024, 0] S1024x3584.size inb_S4096x3584_S1024x3584_1024_0).toLoadRect (harg5.unread x4))) (k0_pay171 (View.readAt (Elt Ideal) arg5.view (Rect.unit (s := S4096x3584) ![1024, 0] S1024x3584.size inb_S4096x3584_S1024x3584_1024_0).toLoadRect (harg5.unread x4)) l0) l1 l2⟩,
    ⟨Rect.unit (s := S32x256) ![0, 0] S8x256.size inb_S32x256_S8x256_0_0, k0_pay169 (View.readAt (Elt Ideal) arg5.view (Rect.unit (s := S4096x3584) ![0, 0] S1024x3584.size inb_S4096x3584_S1024x3584_0_0).toLoadRect (harg5.unread x4)) l0 l1 l2⟩]

/-- A load of one chunk of tokens. -/
theorem ld_chunk (q : Fin 4) (inb) (t : Fin 1024) (d : Fin 3584) :
    View.readAt (Elt Ideal) arg5.view (Rect.unit (s := S4096x3584) ![1024 * q.val, 0] S1024x3584.size inb).toLoadRect (harg5.unread x4) (ix2 t d)
      = x4 (ix2 ⟨1024 * q.val + t.val, by omega⟩ d) := by
  rw [View.readAt_eq_ld, harg5.read_unread]
  refine View.ld_unit_apply_of x4 _ _ inb _ _ fun a => ?_
  match a with
  | ⟨0, _⟩ => rfl
  | ⟨1, _⟩ => exact (Nat.zero_add _).symm

/-- Where the store of chunk `q` puts its element. -/
theorem emb_run (q : Fin 4) (inb) (r : Fin 8) (o : Fin 256) :
    (Rect.unit (s := S32x256) ![8 * q.val, 0] S8x256.size inb).emb (ix2 r o) = ix2 ⟨8 * q.val + r.val, by omega⟩ o := by
  funext b
  apply Fin.ext
  refine (Rect.idx_unit_val (s := S32x256) _ S8x256.size inb (ix2 r o) b).trans ?_
  match b with
  | ⟨0, _⟩ => rfl
  | ⟨1, _⟩ => exact Nat.zero_add _

/-- The four stores leave the energies of all runs. -/
theorem runs_read (x0 : Vec Ideal S256x3584 .bf16) (x1 : Vec Ideal S2x448x256 .i8) (x2 : Vec Ideal S2x8x256 .bf16) (x3 : Vec Ideal S1x256 .f32)
    {κ : Kind} {sp : Space} (v : View sig κ sp S32x256 .f32) :
    v.read (Elt Ideal) (v.writes (Elt Ideal) v.junk (runWrites arg5 harg5 x4 (limb0 x0 x1 x2 x3) (limb1 x0 x1 x2 x3) (limb2 x0 x1 x2 x3)))
      = fun j => tileRun x0 x1 x2 x3 x4 (j 0) (j 1) := by
  have piece : ∀ (q : Fin 4) (inb) (inb'), ∀ x : S8x256.Idx,
      k0_pay169 (F := Ideal) (View.readAt (Elt Ideal) arg5.view (Rect.unit (s := S4096x3584) ![1024 * q.val, 0] S1024x3584.size inb').toLoadRect (harg5.unread x4))
          (limb0 x0 x1 x2 x3) (limb1 x0 x1 x2 x3) (limb2 x0 x1 x2 x3) x
        = (fun j : S32x256.Idx => tileRun x0 x1 x2 x3 x4 (j 0) (j 1)) ((Rect.unit (s := S32x256) ![8 * q.val, 0] S8x256.size inb).emb x) := by
    intro q inb inb' x
    obtain ⟨r, o, rfl⟩ : ∃ (r : Fin 8) (o : Fin 256), x = ix2 r o := ⟨x 0, x 1, eq_ix2 x⟩
    rw [emb_run q inb r o]
    exact chunk_apply x0 x1 x2 x3 x4 q _ (fun t d => ld_chunk arg5 harg5 x4 q inb' t d) r o
  funext y
  refine v.read_writes_apply_of_pieces (Val := Elt Ideal) v.junk (fun j : S32x256.Idx => tileRun x0 x1 x2 x3 x4 (j 0) (j 1)) _ ?_ y ?_
  · intro p hp
    simp only [runWrites, List.mem_cons, List.not_mem_nil, or_false] at hp
    rcases hp with rfl | rfl | rfl | rfl
    · exact piece 3 inb_S32x256_S8x256_24_0 inb_S4096x3584_S1024x3584_3072_0
    · exact piece 2 inb_S32x256_S8x256_16_0 inb_S4096x3584_S1024x3584_2048_0
    · exact piece 1 inb_S32x256_S8x256_8_0 inb_S4096x3584_S1024x3584_1024_0
    · exact piece 0 inb_S32x256_S8x256_0_0 inb_S4096x3584_S1024x3584_0_0
  · obtain ⟨q, r, o, rfl⟩ : ∃ (q : Fin 4) (r : Fin 8) (o : Fin 256), y = ix2 ⟨8 * q.val + r.val, by omega⟩ o := by
      have h0 : (y 0).val < 32 := (y 0).isLt
      refine ⟨⟨(y 0).val / 8, by omega⟩, ⟨(y 0).val % 8, by omega⟩, y 1, (eq_ix2 y).trans ?_⟩
      congr 1; apply Fin.ext; show (y 0).val = 8 * ((y 0).val / 8) + (y 0).val % 8; omega
    have mem : ∀ inb, (ix2 ⟨8 * q.val + r.val, by omega⟩ o : S32x256.Idx) ∈ (Rect.unit (s := S32x256) ![8 * q.val, 0] S8x256.size inb).set := by
      intro inb
      rw [← emb_run q inb r o]
      exact (Rect.unit (s := S32x256) _ S8x256.size inb).toLoadRect.idx_mem _
    unfold runWrites
    fin_cases q
    · exact ⟨_, .tail _ (.tail _ (.tail _ (.head _))), mem inb_S32x256_S8x256_0_0⟩
    · exact ⟨_, .tail _ (.tail _ (.head _)), mem inb_S32x256_S8x256_8_0⟩
    · exact ⟨_, .tail _ (.head _), mem inb_S32x256_S8x256_16_0⟩
    · exact ⟨_, .head _, mem inb_S32x256_S8x256_24_0⟩
end Runs

end Cert.KernelIdeal.Val
end
-- ==== Proof.Cases.lean ====
/- What the body's run stores in each of its three cases: at the first tile, in between, and at the last tile. -/
module

public import proofs.«01_k».proof.Proof.Chunk
public import proofs.«01_k».proof.Proof.Gen.KernelIdeal.Frame

@[expose] public section

set_option maxRecDepth 65536

noncomputable section

namespace Cert.KernelIdeal.Val

open Idealize.ShloMosaic Idealize.SL.Sem Idealize.ShloMosaic.TcCoe Cert.KernelIdeal.Gen

/-- A load of the whole energies' block reads what was stored. -/
theorem readCov_runs (arg5 : Memref sig .tc .vmem S4096x3584 .bf16) (harg5 : arg5.IsWhole) (x0 : Vec Ideal S256x3584 .bf16) (x1 : Vec Ideal S2x448x256 .i8) (x2 : Vec Ideal S2x8x256 .bf16) (x3 : Vec Ideal S1x256 .f32) (x4 : Vec Ideal S4096x3584 .bf16)
    {κ : Kind} {sp : Space} (v : View sig κ sp S32x256 .f32) :
    v.readCov (runWrites arg5 harg5 x4 (limb0 x0 x1 x2 x3) (limb1 x0 x1 x2 x3) (limb2 x0 x1 x2 x3)) (Rect.unit (s := S32x256) ![0, 0] S32x256.size inb_S32x256_S32x256_0_0).toLoadRect
      = fun j => tileRun x0 x1 x2 x3 x4 (j 0) (j 1) := by
  show v.readAt _ _ _ = _
  rw [View.readAt_eq_ld, View.ld_unit_zero (by funext a; match a with | ⟨0, _⟩ => rfl | ⟨1, _⟩ => rfl), runs_read]
  rfl

/-- Every index of a one-row array is at row 0. -/
theorem eq_row (j : S1x256.Idx) : ∃ o : Fin 256, j = ix2 0 o := by
  refine ⟨j 1, (eq_ix2 j).trans ?_⟩
  congr 1; exact Subsingleton.elim (α := Fin 1) _ _

/-- One store of a whole row leaves it, whatever was stored before. -/
theorem row_read {κ : Kind} {sp : Space} (v : View sig κ sp S1x256 .f32) (w : Vec Ideal S1x256 .f32) (L : List (View.Piece (Elt Ideal) S1x256 .f32)) :
    v.read (Elt Ideal) (v.writes (Elt Ideal) v.junk (⟨Rect.unit (s := S1x256) ![0, 0] S1x256.size inb_S1x256_S1x256_0_0, w⟩ :: L)) = w := by
  funext y
  have h : ∀ x : S1x256.Idx, (Rect.unit (s := S1x256) ![0, 0] S1x256.size inb_S1x256_S1x256_0_0).emb x = x := by
    intro x; funext b; apply Fin.ext
    refine (Rect.idx_unit_val (s := S1x256) ![0, 0] S1x256.size inb_S1x256_S1x256_0_0 x b).trans ?_
    match b with
    | ⟨0, _⟩ => exact Nat.zero_add _
    | ⟨1, _⟩ => exact Nat.zero_add _
  conv_lhs => rw [← h y]
  exact View.read_writes_cons_emb (v := v) (f := v.junk) ..

section CaseA
variable (c : Dev nD) (i : grid0.Coords) (arg1 : Memref sig .tc .vmem S256x3584 .bf16) (harg1 : arg1.IsWhole) (arg2 : Memref sig .tc .vmem S2x448x256 .i8) (harg2 : arg2.IsWhole) (arg3 : Memref sig .tc .vmem S2x8x256 .bf16) (harg3 : arg3.IsWhole) (arg4 : Memref sig .tc .vmem S1x256 .f32) (harg4 : arg4.IsWhole) (arg5 : Memref sig .tc .vmem S4096x3584 .bf16) (harg5 : arg5.IsWhole) (arg6 : Memref sig .tc .vmem S32x256 .f32) (harg6 : arg6.IsWhole) (arg7 : Memref sig .tc .vmem S1x256 .f32) (harg7 : arg7.IsWhole) (arg8 : Memref sig .tc .smem S1x1 .f32) (harg8 : arg8.IsWhole) (arg9 : Memref sig .tc .vmem S2x2x448x128 .i32) (harg9 : arg9.IsWhole) (arg10 : Memref sig .tc .vmem S3584x256 .bf16) (harg10 : arg10.IsWhole) (arg11 : Memref sig .tc .vmem S3584x256 .bf16) (harg11 : arg11.IsWhole) (arg12 : Memref sig .tc .vmem S3584x256 .bf16) (harg12 : arg12.IsWhole) (arg13 : Memref sig .tc .vmem S1x256 .f32) (harg13 : arg13.IsWhole) (hc0 : cond0_0 i) (hc1 : ¬cond0_1 i)
  (x0 : Vec Ideal S256x3584 .bf16) (x1 : Vec Ideal S2x448x256 .i8) (x2 : Vec Ideal S2x8x256 .bf16) (x3 : Vec Ideal S1x256 .f32) (x4 : Vec Ideal S4096x3584 .bf16)

set_option maxHeartbeats 4000000 in
/-- The stores of the first tile. -/
theorem pieces_A :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4).1 = (runWrites arg5 harg5 x4 (limb0 x0 x1 x2 x3) (limb1 x0 x1 x2 x3) (limb2 x0 x1 x2 x3)) ∧
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4).2.1 = [⟨Rect.unit (s := S1x256) ![0, 0] S1x256.size inb_S1x256_S1x256_0_0, k0_pay176 (arg6.view.readCov (runWrites arg5 harg5 x4 (limb0 x0 x1 x2 x3) (limb1 x0 x1 x2 x3) (limb2 x0 x1 x2 x3)) (Rect.unit (s := S32x256) ![0, 0] S32x256.size inb_S32x256_S32x256_0_0).toLoadRect)⟩] ∧
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.1 = [⟨Rect.unit (s := S1x256) ![0, 0] S1x256.size inb_S1x256_S1x256_0_0, k0_pay178 (arg6.view.readCov (runWrites arg5 harg5 x4 (limb0 x0 x1 x2 x3) (limb1 x0 x1 x2 x3) (limb2 x0 x1 x2 x3)) (Rect.unit (s := S32x256) ![0, 0] S32x256.size inb_S32x256_S32x256_0_0).toLoadRect) (arg13.view.readCov [⟨Rect.unit (s := S1x256) ![0, 0] S1x256.size inb_S1x256_S1x256_0_0, k0_pay177 (F := Ideal)⟩] (Rect.unit (s := S1x256) ![0, 0] S1x256.size inb_S1x256_S1x256_0_0).toLoadRect)⟩, ⟨Rect.unit (s := S1x256) ![0, 0] S1x256.size inb_S1x256_S1x256_0_0, k0_pay177 (F := Ideal)⟩] := by
  obtain ⟨h0, h1, h2⟩ := limbs_eq Variants.none c none i arg1 harg1 arg2 harg2 arg3 harg3 arg4 harg4 arg5 harg5 arg6 harg6 arg7 harg7 arg8 harg8 arg9 harg9 arg10 harg10 arg11 harg11 arg12 harg12 arg13 harg13 x0 x1 x2 x3
  rw [show limb0 x0 x1 x2 x3 = _ from h0.symm, show limb1 x0 x1 x2 x3 = _ from h1.symm, show limb2 x0 x1 x2 x3 = _ from h2.symm]
  unfold kernelRun0_A
  dsimp only
  sl_unfold_words
  exact ⟨rfl, rfl, rfl⟩

end CaseA

section CaseB
variable (c : Dev nD) (i : grid0.Coords) (arg1 : Memref sig .tc .vmem S256x3584 .bf16) (harg1 : arg1.IsWhole) (arg2 : Memref sig .tc .vmem S2x448x256 .i8) (harg2 : arg2.IsWhole) (arg3 : Memref sig .tc .vmem S2x8x256 .bf16) (harg3 : arg3.IsWhole) (arg4 : Memref sig .tc .vmem S1x256 .f32) (harg4 : arg4.IsWhole) (arg5 : Memref sig .tc .vmem S4096x3584 .bf16) (harg5 : arg5.IsWhole) (arg6 : Memref sig .tc .vmem S32x256 .f32) (harg6 : arg6.IsWhole) (arg7 : Memref sig .tc .vmem S1x256 .f32) (harg7 : arg7.IsWhole) (arg8 : Memref sig .tc .smem S1x1 .f32) (harg8 : arg8.IsWhole) (arg9 : Memref sig .tc .vmem S2x2x448x128 .i32) (harg9 : arg9.IsWhole) (arg10 : Memref sig .tc .vmem S3584x256 .bf16) (harg10 : arg10.IsWhole) (arg11 : Memref sig .tc .vmem S3584x256 .bf16) (harg11 : arg11.IsWhole) (arg12 : Memref sig .tc .vmem S3584x256 .bf16) (harg12 : arg12.IsWhole) (arg13 : Memref sig .tc .vmem S1x256 .f32) (harg13 : arg13.IsWhole) (hc0 : ¬cond0_0 i) (hc1 : ¬cond0_1 i)
  (x0 : Vec Ideal S256x3584 .bf16) (x1 : Vec Ideal S2x448x256 .i8) (x2 : Vec Ideal S2x8x256 .bf16) (x3 : Vec Ideal S1x256 .f32) (x4 : Vec Ideal S4096x3584 .bf16) (xs4 : Vec Ideal S1x256 .f32)

set_option maxHeartbeats 4000000 in
/-- The stores of a tile in between. -/
theorem pieces_B :
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs4).1 = (runWrites arg5 harg5 x4 (limb0 x0 x1 x2 x3) (limb1 x0 x1 x2 x3) (limb2 x0 x1 x2 x3)) ∧
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs4).2.1 = [⟨Rect.unit (s := S1x256) ![0, 0] S1x256.size inb_S1x256_S1x256_0_0, k0_pay176 (arg6.view.readCov (runWrites arg5 harg5 x4 (limb0 x0 x1 x2 x3) (limb1 x0 x1 x2 x3) (limb2 x0 x1 x2 x3)) (Rect.unit (s := S32x256) ![0, 0] S32x256.size inb_S32x256_S32x256_0_0).toLoadRect)⟩] ∧
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs4).2.2.2.1 = [⟨Rect.unit (s := S1x256) ![0, 0] S1x256.size inb_S1x256_S1x256_0_0, k0_pay178 (arg6.view.readCov (runWrites arg5 harg5 x4 (limb0 x0 x1 x2 x3) (limb1 x0 x1 x2 x3) (limb2 x0 x1 x2 x3)) (Rect.unit (s := S32x256) ![0, 0] S32x256.size inb_S32x256_S32x256_0_0).toLoadRect) (View.readAt (Elt Ideal) arg13.view (Rect.unit (s := S1x256) ![0, 0] S1x256.size inb_S1x256_S1x256_0_0).toLoadRect (harg13.unread xs4))⟩] := by
  obtain ⟨h0, h1, h2⟩ := limbs_eq Variants.none c none i arg1 harg1 arg2 harg2 arg3 harg3 arg4 harg4 arg5 harg5 arg6 harg6 arg7 harg7 arg8 harg8 arg9 harg9 arg10 harg10 arg11 harg11 arg12 harg12 arg13 harg13 x0 x1 x2 x3
  rw [show limb0 x0 x1 x2 x3 = _ from h0.symm, show limb1 x0 x1 x2 x3 = _ from h1.symm, show limb2 x0 x1 x2 x3 = _ from h2.symm]
  unfold kernelRun0_B
  dsimp only
  sl_unfold_words
  exact ⟨rfl, rfl, rfl⟩

end CaseB

section CaseC
variable (c : Dev nD) (i : grid0.Coords) (arg1 : Memref sig .tc .vmem S256x3584 .bf16) (harg1 : arg1.IsWhole) (arg2 : Memref sig .tc .vmem S2x448x256 .i8) (harg2 : arg2.IsWhole) (arg3 : Memref sig .tc .vmem S2x8x256 .bf16) (harg3 : arg3.IsWhole) (arg4 : Memref sig .tc .vmem S1x256 .f32) (harg4 : arg4.IsWhole) (arg5 : Memref sig .tc .vmem S4096x3584 .bf16) (harg5 : arg5.IsWhole) (arg6 : Memref sig .tc .vmem S32x256 .f32) (harg6 : arg6.IsWhole) (arg7 : Memref sig .tc .vmem S1x256 .f32) (harg7 : arg7.IsWhole) (arg8 : Memref sig .tc .smem S1x1 .f32) (harg8 : arg8.IsWhole) (arg9 : Memref sig .tc .vmem S2x2x448x128 .i32) (harg9 : arg9.IsWhole) (arg10 : Memref sig .tc .vmem S3584x256 .bf16) (harg10 : arg10.IsWhole) (arg11 : Memref sig .tc .vmem S3584x256 .bf16) (harg11 : arg11.IsWhole) (arg12 : Memref sig .tc .vmem S3584x256 .bf16) (harg12 : arg12.IsWhole) (arg13 : Memref sig .tc .vmem S1x256 .f32) (harg13 : arg13.IsWhole) (hc0 : ¬cond0_0 i) (hc1 : cond0_1 i)
  (x0 : Vec Ideal S256x3584 .bf16) (x1 : Vec Ideal S2x448x256 .i8) (x2 : Vec Ideal S2x8x256 .bf16) (x3 : Vec Ideal S1x256 .f32) (x4 : Vec Ideal S4096x3584 .bf16) (xs4 : Vec Ideal S1x256 .f32)

set_option maxHeartbeats 4000000 in
/-- The stores of the last tile. -/
theorem pieces_C :
    (kernelRun0_C (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs4).1 = (runWrites arg5 harg5 x4 (limb0 x0 x1 x2 x3) (limb1 x0 x1 x2 x3) (limb2 x0 x1 x2 x3)) ∧
    (kernelRun0_C (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs4).2.1 = [⟨Rect.unit (s := S1x256) ![0, 0] S1x256.size inb_S1x256_S1x256_0_0, k0_pay176 (arg6.view.readCov (runWrites arg5 harg5 x4 (limb0 x0 x1 x2 x3) (limb1 x0 x1 x2 x3) (limb2 x0 x1 x2 x3)) (Rect.unit (s := S32x256) ![0, 0] S32x256.size inb_S32x256_S32x256_0_0).toLoadRect)⟩] ∧
    (kernelRun0_C (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs4).2.2.2.1 = [⟨Rect.unit (s := S1x256) ![0, 0] S1x256.size inb_S1x256_S1x256_0_0, k0_pay178 (arg6.view.readCov (runWrites arg5 harg5 x4 (limb0 x0 x1 x2 x3) (limb1 x0 x1 x2 x3) (limb2 x0 x1 x2 x3)) (Rect.unit (s := S32x256) ![0, 0] S32x256.size inb_S32x256_S32x256_0_0).toLoadRect) (View.readAt (Elt Ideal) arg13.view (Rect.unit (s := S1x256) ![0, 0] S1x256.size inb_S1x256_S1x256_0_0).toLoadRect (harg13.unread xs4))⟩] ∧
    (kernelRun0_C (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs4).2.2.1 = [⟨Rect.unit (s := S1x1) ![0, 0] S1x1.size inb_S1x1_S1x1_0_0, fun _ => k0_pay179 (F := Ideal) (arg13.view.readCov [⟨Rect.unit (s := S1x256) ![0, 0] S1x256.size inb_S1x256_S1x256_0_0, k0_pay178 (arg6.view.readCov (runWrites arg5 harg5 x4 (limb0 x0 x1 x2 x3) (limb1 x0 x1 x2 x3) (limb2 x0 x1 x2 x3)) (Rect.unit (s := S32x256) ![0, 0] S32x256.size inb_S32x256_S32x256_0_0).toLoadRect) (View.readAt (Elt Ideal) arg13.view (Rect.unit (s := S1x256) ![0, 0] S1x256.size inb_S1x256_S1x256_0_0).toLoadRect (harg13.unread xs4))⟩] (Rect.unit (s := S1x256) ![0, 0] S1x256.size inb_S1x256_S1x256_0_0).toLoadRect)⟩] := by
  obtain ⟨h0, h1, h2⟩ := limbs_eq Variants.none c none i arg1 harg1 arg2 harg2 arg3 harg3 arg4 harg4 arg5 harg5 arg6 harg6 arg7 harg7 arg8 harg8 arg9 harg9 arg10 harg10 arg11 harg11 arg12 harg12 arg13 harg13 x0 x1 x2 x3
  rw [show limb0 x0 x1 x2 x3 = _ from h0.symm, show limb1 x0 x1 x2 x3 = _ from h1.symm, show limb2 x0 x1 x2 x3 = _ from h2.symm]
  unfold kernelRun0_C
  dsimp only
  sl_unfold_words
  exact ⟨rfl, rfl, rfl, rfl⟩

end CaseC

end Cert.KernelIdeal.Val
end
-- ==== Proof.Outs.lean ====
/- The blocks and the accumulator that the body leaves, in each of its three cases, in terms of the tile's energies. -/
module

public import proofs.«01_k».proof.Proof.Cases

@[expose] public section

noncomputable section

namespace Cert.KernelIdeal.Val

open Idealize.ShloMosaic Idealize.SL.Sem Idealize.ShloMosaic.TcCoe Cert.KernelIdeal.Gen

/-- The sum over the runs of what the four chunks stored. -/
theorem energy_runs (arg5 : Memref sig .tc .vmem S4096x3584 .bf16) (harg5 : arg5.IsWhole) (x0 : Vec Ideal S256x3584 .bf16) (x1 : Vec Ideal S2x448x256 .i8) (x2 : Vec Ideal S2x8x256 .bf16) (x3 : Vec Ideal S1x256 .f32) (x4 : Vec Ideal S4096x3584 .bf16)
    {κ : Kind} {sp : Space} (v : View sig κ sp S32x256 .f32) :
    k0_pay176 (F := Ideal) (v.readCov (runWrites arg5 harg5 x4 (limb0 x0 x1 x2 x3) (limb1 x0 x1 x2 x3) (limb2 x0 x1 x2 x3))
      (Rect.unit (s := S32x256) ![0, 0] S32x256.size inb_S32x256_S32x256_0_0).toLoadRect) = fun j => tileE x0 x1 x2 x3 x4 (j 1) := by
  funext j
  obtain ⟨o, rfl⟩ := eq_row j
  rw [readCov_runs, energy_apply]
  rfl

/-- The accumulator after the tile. -/
theorem accum_runs (arg5 : Memref sig .tc .vmem S4096x3584 .bf16) (harg5 : arg5.IsWhole) (x0 : Vec Ideal S256x3584 .bf16) (x1 : Vec Ideal S2x448x256 .i8) (x2 : Vec Ideal S2x8x256 .bf16) (x3 : Vec Ideal S1x256 .f32) (x4 : Vec Ideal S4096x3584 .bf16)
    {κ : Kind} {sp : Space} (v : View sig κ sp S32x256 .f32) (w : Vec Ideal S1x256 .f32) :
    k0_pay178 (F := Ideal) (v.readCov (runWrites arg5 harg5 x4 (limb0 x0 x1 x2 x3) (limb1 x0 x1 x2 x3) (limb2 x0 x1 x2 x3))
      (Rect.unit (s := S32x256) ![0, 0] S32x256.size inb_S32x256_S32x256_0_0).toLoadRect) w = fun j => w j + tileE x0 x1 x2 x3 x4 (j 1) := by
  funext j
  obtain ⟨o, rfl⟩ := eq_row j
  rw [accum_apply, energy_runs]

/-- A load of a whole row that one store has just written. -/
theorem readCov_row {κ : Kind} {sp : Space} (v : View sig κ sp S1x256 .f32) (w : Vec Ideal S1x256 .f32) (L : List (View.Piece (Elt Ideal) S1x256 .f32)) :
    v.readCov (⟨Rect.unit (s := S1x256) ![0, 0] S1x256.size inb_S1x256_S1x256_0_0, w⟩ :: L)
      (Rect.unit (s := S1x256) ![0, 0] S1x256.size inb_S1x256_S1x256_0_0).toLoadRect = w := by
  show v.readAt _ _ _ = _
  rw [View.readAt_eq_ld, View.ld_unit_zero (by funext a; match a with | ⟨0, _⟩ => rfl | ⟨1, _⟩ => rfl), row_read]

/-- A load of the whole accumulator. -/
theorem readAt_row (m : Memref sig .tc .vmem S1x256 .f32) (h : m.IsWhole) (w : Vec Ideal S1x256 .f32) :
    View.readAt (Elt Ideal) m.view (Rect.unit (s := S1x256) ![0, 0] S1x256.size inb_S1x256_S1x256_0_0).toLoadRect (h.unread w) = w := by
  rw [View.readAt_eq_ld, View.ld_unit_zero (by funext a; match a with | ⟨0, _⟩ => rfl | ⟨1, _⟩ => rfl), h.read_unread]

/-- One store of the whole scalar leaves it. -/
theorem cell_read {κ : Kind} {sp : Space} (v : View sig κ sp S1x1 .f32) (w : Vec Ideal S1x1 .f32) (L : List (View.Piece (Elt Ideal) S1x1 .f32)) :
    v.read (Elt Ideal) (v.writes (Elt Ideal) v.junk (⟨Rect.unit (s := S1x1) ![0, 0] S1x1.size inb_S1x1_S1x1_0_0, w⟩ :: L)) = w := by
  funext y
  have h : ∀ x : S1x1.Idx, (Rect.unit (s := S1x1) ![0, 0] S1x1.size inb_S1x1_S1x1_0_0).emb x = x := by
    intro x; funext b; apply Fin.ext
    refine (Rect.idx_unit_val (s := S1x1) ![0, 0] S1x1.size inb_S1x1_S1x1_0_0 x b).trans ?_
    match b with
    | ⟨0, _⟩ => exact Nat.zero_add _
    | ⟨1, _⟩ => exact Nat.zero_add _
  conv_lhs => rw [← h y]
  exact View.read_writes_cons_emb (v := v) (f := v.junk) ..

section CaseA
variable (c : Dev nD) (i : grid0.Coords) (arg1 : Memref sig .tc .vmem S256x3584 .bf16) (harg1 : arg1.IsWhole) (arg2 : Memref sig .tc .vmem S2x448x256 .i8) (harg2 : arg2.IsWhole) (arg3 : Memref sig .tc .vmem S2x8x256 .bf16) (harg3 : arg3.IsWhole) (arg4 : Memref sig .tc .vmem S1x256 .f32) (harg4 : arg4.IsWhole) (arg5 : Memref sig .tc .vmem S4096x3584 .bf16) (harg5 : arg5.IsWhole) (arg6 : Memref sig .tc .vmem S32x256 .f32) (harg6 : arg6.IsWhole) (arg7 : Memref sig .tc .vmem S1x256 .f32) (harg7 : arg7.IsWhole) (arg8 : Memref sig .tc .smem S1x1 .f32) (harg8 : arg8.IsWhole) (arg9 : Memref sig .tc .vmem S2x2x448x128 .i32) (harg9 : arg9.IsWhole) (arg10 : Memref sig .tc .vmem S3584x256 .bf16) (harg10 : arg10.IsWhole) (arg11 : Memref sig .tc .vmem S3584x256 .bf16) (harg11 : arg11.IsWhole) (arg12 : Memref sig .tc .vmem S3584x256 .bf16) (harg12 : arg12.IsWhole) (arg13 : Memref sig .tc .vmem S1x256 .f32) (harg13 : arg13.IsWhole) (hc0 : cond0_0 i) (hc1 : ¬cond0_1 i)
  (x0 : Vec Ideal S256x3584 .bf16) (x1 : Vec Ideal S2x448x256 .i8) (x2 : Vec Ideal S2x8x256 .bf16) (x3 : Vec Ideal S1x256 .f32) (x4 : Vec Ideal S4096x3584 .bf16)

/-- At the first tile the block of run energies. -/
theorem outA_5 : out0_A_5 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 = fun j => tileRun x0 x1 x2 x3 x4 (j 0) (j 1) := by
  unfold out0_A_5
  rw [(pieces_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4).1, runs_read]

/-- At the first tile the block of energies. -/
theorem outA_6 : out0_A_6 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 = fun j => tileE x0 x1 x2 x3 x4 (j 1) := by
  unfold out0_A_6
  rw [(pieces_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4).2.1, row_read, energy_runs]

/-- At the first tile the accumulator. -/
theorem soutA_4 : sout0_A_4 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 = fun j => tileE x0 x1 x2 x3 x4 (j 1) := by
  unfold sout0_A_4
  rw [(pieces_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4).2.2, row_read, accum_runs, readCov_row]
  funext j
  obtain ⟨o, rfl⟩ := eq_row j
  rw [zeros_apply, zero_add]

end CaseA

section CaseB
variable (c : Dev nD) (i : grid0.Coords) (arg1 : Memref sig .tc .vmem S256x3584 .bf16) (harg1 : arg1.IsWhole) (arg2 : Memref sig .tc .vmem S2x448x256 .i8) (harg2 : arg2.IsWhole) (arg3 : Memref sig .tc .vmem S2x8x256 .bf16) (harg3 : arg3.IsWhole) (arg4 : Memref sig .tc .vmem S1x256 .f32) (harg4 : arg4.IsWhole) (arg5 : Memref sig .tc .vmem S4096x3584 .bf16) (harg5 : arg5.IsWhole) (arg6 : Memref sig .tc .vmem S32x256 .f32) (harg6 : arg6.IsWhole) (arg7 : Memref sig .tc .vmem S1x256 .f32) (harg7 : arg7.IsWhole) (arg8 : Memref sig .tc .smem S1x1 .f32) (harg8 : arg8.IsWhole) (arg9 : Memref sig .tc .vmem S2x2x448x128 .i32) (harg9 : arg9.IsWhole) (arg10 : Memref sig .tc .vmem S3584x256 .bf16) (harg10 : arg10.IsWhole) (arg11 : Memref sig .tc .vmem S3584x256 .bf16) (harg11 : arg11.IsWhole) (arg12 : Memref sig .tc .vmem S3584x256 .bf16) (harg12 : arg12.IsWhole) (arg13 : Memref sig .tc .vmem S1x256 .f32) (harg13 : arg13.IsWhole) (hc0 : ¬cond0_0 i) (hc1 : ¬cond0_1 i)
  (x0 : Vec Ideal S256x3584 .bf16) (x1 : Vec Ideal S2x448x256 .i8) (x2 : Vec Ideal S2x8x256 .bf16) (x3 : Vec Ideal S1x256 .f32) (x4 : Vec Ideal S4096x3584 .bf16) (xs4 : Vec Ideal S1x256 .f32)

/-- At a tile in between the block of run energies. -/
theorem outB_5 : out0_B_5 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs4 = fun j => tileRun x0 x1 x2 x3 x4 (j 0) (j 1) := by
  unfold out0_B_5
  rw [(pieces_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs4).1, runs_read]

/-- At a tile in between the block of energies. -/
theorem outB_6 : out0_B_6 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs4 = fun j => tileE x0 x1 x2 x3 x4 (j 1) := by
  unfold out0_B_6
  rw [(pieces_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs4).2.1, row_read, energy_runs]

/-- At a tile in between the accumulator. -/
theorem soutB_4 : sout0_B_4 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs4 = fun j => xs4 j + tileE x0 x1 x2 x3 x4 (j 1) := by
  unfold sout0_B_4
  rw [(pieces_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs4).2.2, row_read, accum_runs, readAt_row]

end CaseB

section CaseC
variable (c : Dev nD) (i : grid0.Coords) (arg1 : Memref sig .tc .vmem S256x3584 .bf16) (harg1 : arg1.IsWhole) (arg2 : Memref sig .tc .vmem S2x448x256 .i8) (harg2 : arg2.IsWhole) (arg3 : Memref sig .tc .vmem S2x8x256 .bf16) (harg3 : arg3.IsWhole) (arg4 : Memref sig .tc .vmem S1x256 .f32) (harg4 : arg4.IsWhole) (arg5 : Memref sig .tc .vmem S4096x3584 .bf16) (harg5 : arg5.IsWhole) (arg6 : Memref sig .tc .vmem S32x256 .f32) (harg6 : arg6.IsWhole) (arg7 : Memref sig .tc .vmem S1x256 .f32) (harg7 : arg7.IsWhole) (arg8 : Memref sig .tc .smem S1x1 .f32) (harg8 : arg8.IsWhole) (arg9 : Memref sig .tc .vmem S2x2x448x128 .i32) (harg9 : arg9.IsWhole) (arg10 : Memref sig .tc .vmem S3584x256 .bf16) (harg10 : arg10.IsWhole) (arg11 : Memref sig .tc .vmem S3584x256 .bf16) (harg11 : arg11.IsWhole) (arg12 : Memref sig .tc .vmem S3584x256 .bf16) (harg12 : arg12.IsWhole) (arg13 : Memref sig .tc .vmem S1x256 .f32) (harg13 : arg13.IsWhole) (hc0 : ¬cond0_0 i) (hc1 : cond0_1 i)
  (x0 : Vec Ideal S256x3584 .bf16) (x1 : Vec Ideal S2x448x256 .i8) (x2 : Vec Ideal S2x8x256 .bf16) (x3 : Vec Ideal S1x256 .f32) (x4 : Vec Ideal S4096x3584 .bf16) (xs4 : Vec Ideal S1x256 .f32)

/-- At the last tile the block of run energies. -/
theorem outC_5 : out0_C_5 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs4 = fun j => tileRun x0 x1 x2 x3 x4 (j 0) (j 1) := by
  unfold out0_C_5
  rw [(pieces_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs4).1, runs_read]

/-- At the last tile the block of energies. -/
theorem outC_6 : out0_C_6 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs4 = fun j => tileE x0 x1 x2 x3 x4 (j 1) := by
  unfold out0_C_6
  rw [(pieces_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs4).2.1, row_read, energy_runs]

/-- At the last tile the accumulator. -/
theorem soutC_4 : sout0_C_4 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs4 = fun j => xs4 j + tileE x0 x1 x2 x3 x4 (j 1) := by
  unfold sout0_C_4
  rw [(pieces_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs4).2.2.1, row_read, accum_runs, readAt_row]

/-- At the last tile the total. -/
theorem outC_7 : out0_C_7 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs4 = fun _ => ∑ o : Fin 256, (xs4 (ix2 0 o) + tileE x0 x1 x2 x3 x4 o) := by
  unfold out0_C_7
  rw [(pieces_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs4).2.2.2, cell_read, readCov_row, accum_runs, readAt_row, total_apply]
  rfl

end CaseC

end Cert.KernelIdeal.Val
end
-- ==== Proof.Spec.lean ====
/- What the two programs compute, over the arguments: the residual of the decoded weights, its products with the
   activations, the energies of the runs of 128 tokens, their sums over the runs and the sum over the rows. -/
module

public import proofs.«01_k».proof.Proof.Pick

@[expose] public section

noncomputable section

namespace Cert.Spec

open Idealize.ShloMosaic Cert.KernelIdeal Cert.KernelIdeal.Val

variable (w : Vec Ideal S18944x3584 .bf16) (cd : Vec Ideal S18944x448x2 .i8) (cb : Vec Ideal S2x256x8 .bf16)
  (rs : Vec Ideal S18944 .f32) (x : Vec Ideal S4x1024x3584 .bf16)

/-- The residual of row `o` at input `d`: the weight less the scaled sum of the two codebook entries. -/
def res (o : Fin 18944) (d : Fin 3584) : EReal :=
  w (ix2 o d) - (cb (ix3 0 (codeOf (cd (ix3 o ⟨d.val / 8, by omega⟩ 0))) ⟨d.val % 8, by omega⟩)
    + cb (ix3 1 (codeOf (cd (ix3 o ⟨d.val / 8, by omega⟩ 1))) ⟨d.val % 8, by omega⟩)) * rs (ix1 o)

/-- The residual of row `o` times token `t`, the tokens of the four sequences counted through. -/
def z (o : Fin 18944) (t : Fin 4096) : EReal :=
  ∑ d : Fin 3584, res w cd cb rs o d * x (ix3 ⟨t.val / 1024, by omega⟩ ⟨t.val % 1024, by omega⟩ d)

/-- The energy of row `o` over run `r` of 128 tokens, divided by the number of tokens. -/
def run (o : Fin 18944) (r : Fin 32) : EReal :=
  Ideal.div (∑ u : Fin 128, z w cd cb rs x o ⟨128 * r.val + u.val, by omega⟩ * z w cd cb rs x o ⟨128 * r.val + u.val, by omega⟩)
    (Ideal.ofBits .f32 0x45800000#32)

/-- The energy of row `o`. -/
def row (o : Fin 18944) : EReal := ∑ r : Fin 32, run w cd cb rs x o r

/-- The energy of all rows. -/
def total : EReal := ∑ o : Fin 18944, row w cd cb rs x o

/-- The energy of a row by its number, zero past the last. -/
def rowN (k : ℕ) : EReal := if h : k < 18944 then row w cd cb rs x ⟨k, h⟩ else 0

/-- The rows counted tile by tile: the sums over the tiles, lane by lane, add up to the total. -/
theorem sum_tiles : ∑ o : Fin 256, ∑ p ∈ Finset.range 74, rowN w cd cb rs x (256 * p + o.val) = total w cd cb rs x := by
  simp only [Finset.sum_range]
  rw [Finset.sum_comm, ← Fintype.sum_prod_type']
  refine Fintype.sum_equiv (finProdFinEquiv (m := 74) (n := 256)) _ _ fun q => ?_
  have h : 256 * q.1.val + q.2.val < 18944 := by omega
  unfold rowN
  rw [dif_pos h]
  exact congrArg _ (Fin.ext (Nat.add_comm _ _))

end Cert.Spec
-- ==== Proof.Arrays.lean ====
/- The blocks that the grid points stage, as elements of the arguments, and the arrays after the last point. -/
module

public import proofs.«01_k».proof.Proof.Outs
public import proofs.«01_k».proof.Proof.Spec
public import proofs.«01_k».proof.Proof.Gen.KernelIdeal.Frame
public import Idealize.ShloMosaic.Lib.Pipeline.ValueKit
public import Idealize.ShloMosaic.Lib.StableHlo.ReadAt

@[expose] public section

set_option maxRecDepth 16384

noncomputable section

namespace Cert.KernelIdeal.Val

open Idealize.ShloMosaic Idealize.SL.Sem Idealize.ShloMosaic.TcCoe Cert.KernelIdeal.Gen
open Idealize.ShloMosaic.Pipeline (Dat)

variable (m : (ℓ : Loc nD τ sig) → Buf (Elt Ideal) ℓ) (c : Dev nD)

/-- The five arguments as vectors. -/
def arg0 : Vec Ideal S18944x3584 .bf16 := m ((c : Thread nD τ).loc main_arg0)
def arg1 : Vec Ideal S18944x448x2 .i8 := m ((c : Thread nD τ).loc main_arg1)
def arg2 : Vec Ideal S2x256x8 .bf16 := m ((c : Thread nD τ).loc main_arg2)
def arg3 : Vec Ideal S18944 .f32 := m ((c : Thread nD τ).loc main_arg3)
def arg4 : Vec Ideal S4x1024x3584 .bf16 := m ((c : Thread nD τ).loc main_arg4)

/-- The row of the whole array that is row `o` of the tile of point `t`. -/
def rowOf (t : Fin cfg0.N) (o : Fin 256) : Fin 18944 :=
  ⟨256 * t.val + o.val, by have := lt_of_lt_of_eq t.isLt (show cfg0.N = 74 from N_0); omega⟩

/-- The transposed codes. -/
theorem V_v0 (j : Fin 2) (g : Fin 448) (o : Fin 18944) : V m c main_v0 (ix3 j g o) = arg1 m c (ix3 o g j) := by
  unfold V V0
  after_reads_at
  rfl

/-- The transposed codebooks. -/
theorem V_v1 (j : Fin 2) (s : Fin 8) (k : Fin 256) : V m c main_v1 (ix3 j s k) = arg2 m c (ix3 j k s) := by
  unfold V V0
  after_reads_at
  rfl

/-- The scales as a row. -/
theorem V_v2 (o : Fin 18944) : V m c main_v2 (ix2 0 o) = arg3 m c (ix1 o) := by
  unfold V V0
  after_reads_at
  rfl

/-- The tokens counted through. -/
theorem V_v3 (t : Fin 4096) (d : Fin 3584) :
    V m c main_v3 (ix2 t d) = arg4 m c (ix3 ⟨t.val / 1024, by omega⟩ ⟨t.val % 1024, by omega⟩ d) := by
  unfold V V0
  after_reads_at
  rfl

/-- Where the windows' blocks lie at a point. -/
theorem idx_facts : ∀ t : Fin cfg0.N,
    (win0_0.index t (0 : Fin 2) = t.val ∧ win0_0.index t (1 : Fin 2) = 0)
    ∧ (win0_1.index t (0 : Fin 3) = 0 ∧ win0_1.index t (1 : Fin 3) = 0 ∧ win0_1.index t (2 : Fin 3) = t.val)
    ∧ (win0_2.index t (0 : Fin 3) = 0 ∧ win0_2.index t (1 : Fin 3) = 0 ∧ win0_2.index t (2 : Fin 3) = 0)
    ∧ (win0_3.index t (0 : Fin 2) = 0 ∧ win0_3.index t (1 : Fin 2) = t.val)
    ∧ (win0_4.index t (0 : Fin 2) = 0 ∧ win0_4.index t (1 : Fin 2) = 0)
    ∧ (win0_5.index t (0 : Fin 2) = 0 ∧ win0_5.index t (1 : Fin 2) = t.val)
    ∧ (win0_6.index t (0 : Fin 2) = 0 ∧ win0_6.index t (1 : Fin 2) = t.val) :=
  (by decide +kernel : ∀ t : Fin grid0.N, _)

/-- The tile of the weights. -/
theorem iblk0_apply (t : Fin cfg0.N) (o : Fin 256) (d : Fin 3584) : iblk m c 0 t (ix2 o d) = arg0 m c (ix2 (rowOf t o) d) := by
  obtain ⟨⟨e0, e1⟩, -⟩ := idx_facts t
  refine Eq.trans ?_ (congrFun (V_main_arg0 m c) _)
  show V m c main_arg0 (((cfg0.win 0).blk t).view.emb (ix2 o d)) = _
  refine congrArg _ (funext fun a => Fin.ext ?_)
  match a with
  | ⟨0, _⟩ => show win0_0.index t (0 : Fin 2) * 256 + 1 * o.val = 256 * t.val + o.val; omega
  | ⟨1, _⟩ => show win0_0.index t (1 : Fin 2) * 3584 + 1 * d.val = d.val; omega

/-- The tile of the codes. -/
theorem iblk1_apply (t : Fin cfg0.N) (j : Fin 2) (g : Fin 448) (o : Fin 256) :
    iblk m c 1 t (ix3 j g o) = arg1 m c (ix3 (rowOf t o) g j) := by
  obtain ⟨-, ⟨e0, e1, e2⟩, -⟩ := idx_facts t
  refine Eq.trans ?_ (V_v0 m c j g (rowOf t o))
  show V m c main_v0 (((cfg0.win 1).blk t).view.emb (ix3 j g o)) = _
  refine congrArg _ (funext fun a => Fin.ext ?_)
  match a with
  | ⟨0, _⟩ => show win0_1.index t (0 : Fin 3) * 2 + 1 * j.val = j.val; omega
  | ⟨1, _⟩ => show win0_1.index t (1 : Fin 3) * 448 + 1 * g.val = g.val; omega
  | ⟨2, _⟩ => show win0_1.index t (2 : Fin 3) * 256 + 1 * o.val = 256 * t.val + o.val; omega

/-- The codebooks, whole at every point. -/
theorem iblk2_apply (t : Fin cfg0.N) (j : Fin 2) (s : Fin 8) (k : Fin 256) :
    iblk m c 2 t (ix3 j s k) = arg2 m c (ix3 j k s) := by
  obtain ⟨-, -, ⟨e0, e1, e2⟩, -⟩ := idx_facts t
  refine Eq.trans ?_ (V_v1 m c j s k)
  show V m c main_v1 (((cfg0.win 2).blk t).view.emb (ix3 j s k)) = _
  refine congrArg _ (funext fun a => Fin.ext ?_)
  match a with
  | ⟨0, _⟩ => show win0_2.index t (0 : Fin 3) * 2 + 1 * j.val = j.val; omega
  | ⟨1, _⟩ => show win0_2.index t (1 : Fin 3) * 8 + 1 * s.val = s.val; omega
  | ⟨2, _⟩ => show win0_2.index t (2 : Fin 3) * 256 + 1 * k.val = k.val; omega

/-- The tile of the scales. -/
theorem iblk3_apply (t : Fin cfg0.N) (o : Fin 256) : iblk m c 3 t (ix2 0 o) = arg3 m c (ix1 (rowOf t o)) := by
  obtain ⟨-, -, -, ⟨e0, e1⟩, -⟩ := idx_facts t
  refine Eq.trans ?_ (V_v2 m c (rowOf t o))
  show V m c main_v2 (((cfg0.win 3).blk t).view.emb (ix2 0 o)) = _
  refine congrArg _ (funext fun a => Fin.ext ?_)
  match a with
  | ⟨0, _⟩ => show win0_3.index t (0 : Fin 2) * 1 + 1 * 0 = 0; omega
  | ⟨1, _⟩ => show win0_3.index t (1 : Fin 2) * 256 + 1 * o.val = 256 * t.val + o.val; omega

/-- The activations, whole at every point. -/
theorem iblk4_apply (t : Fin cfg0.N) (u : Fin 4096) (d : Fin 3584) :
    iblk m c 4 t (ix2 u d) = arg4 m c (ix3 ⟨u.val / 1024, by omega⟩ ⟨u.val % 1024, by omega⟩ d) := by
  obtain ⟨-, -, -, -, ⟨e0, e1⟩, -⟩ := idx_facts t
  refine Eq.trans ?_ (V_v3 m c u d)
  show V m c main_v3 (((cfg0.win 4).blk t).view.emb (ix2 u d)) = _
  refine congrArg _ (funext fun a => Fin.ext ?_)
  match a with
  | ⟨0, _⟩ => show win0_4.index t (0 : Fin 2) * 4096 + 1 * u.val = u.val; omega
  | ⟨1, _⟩ => show win0_4.index t (1 : Fin 2) * 3584 + 1 * d.val = d.val; omega

/-- The tile's residuals are the rows' residuals. -/
theorem tileRes_eq (t : Fin cfg0.N) (d : Fin 3584) (o : Fin 256) :
    tileRes (iblk m c 0 t) (iblk m c 1 t) (iblk m c 2 t) (iblk m c 3 t) d o
      = Spec.res (arg0 m c) (arg1 m c) (arg2 m c) (arg3 m c) (rowOf t o) d := by
  unfold tileRes Spec.res
  rw [iblk0_apply, iblk1_apply, iblk1_apply, iblk2_apply, iblk2_apply, iblk3_apply]

/-- The tile's products. -/
theorem tileZ_eq (t : Fin cfg0.N) (o : Fin 256) (u : Fin 4096) :
    tileZ (iblk m c 0 t) (iblk m c 1 t) (iblk m c 2 t) (iblk m c 3 t) (iblk m c 4 t) o u
      = Spec.z (arg0 m c) (arg1 m c) (arg2 m c) (arg3 m c) (arg4 m c) (rowOf t o) u := by
  unfold tileZ Spec.z
  refine Finset.sum_congr rfl fun d _ => ?_
  rw [tileRes_eq, iblk4_apply]

/-- The tile's runs. -/
theorem tileRun_eq (t : Fin cfg0.N) (r : Fin 32) (o : Fin 256) :
    tileRun (iblk m c 0 t) (iblk m c 1 t) (iblk m c 2 t) (iblk m c 3 t) (iblk m c 4 t) r o
      = Spec.run (arg0 m c) (arg1 m c) (arg2 m c) (arg3 m c) (arg4 m c) (rowOf t o) r := by
  unfold tileRun Spec.run
  simp only [tileZ_eq]

/-- The tile's energies. -/
theorem tileE_eq (t : Fin cfg0.N) (o : Fin 256) :
    tileE (iblk m c 0 t) (iblk m c 1 t) (iblk m c 2 t) (iblk m c 3 t) (iblk m c 4 t) o
      = Spec.row (arg0 m c) (arg1 m c) (arg2 m c) (arg3 m c) (arg4 m c) (rowOf t o) := by
  unfold tileE Spec.row
  simp only [tileRun_eq]

end Cert.KernelIdeal.Val
-- ==== Proof.Final.lean ====
/- What the body leaves at every grid point, and the three arrays after the last point. -/
module

public import proofs.«01_k».proof.Proof.Arrays

@[expose] public section

set_option maxRecDepth 16384

noncomputable section

namespace Cert.KernelIdeal.Val

open Idealize.ShloMosaic Idealize.SL.Sem Idealize.ShloMosaic.TcCoe Cert.KernelIdeal.Gen
open Idealize.ShloMosaic.Pipeline (Dat)

variable (m : (ℓ : Loc nD τ sig) → Buf (Elt Ideal) ℓ) (c : Dev nD)

/-- The runs' energies over the arguments. -/
abbrev runOf (o : Fin 18944) (r : Fin 32) : EReal := Spec.run (arg0 m c) (arg1 m c) (arg2 m c) (arg3 m c) (arg4 m c) o r
/-- The rows' energies over the arguments. -/
abbrev rowE (o : Fin 18944) : EReal := Spec.row (arg0 m c) (arg1 m c) (arg2 m c) (arg3 m c) (arg4 m c) o
/-- The same by the row's number. -/
abbrev rowEN (k : ℕ) : EReal := Spec.rowN (arg0 m c) (arg1 m c) (arg2 m c) (arg3 m c) (arg4 m c) k
/-- The energy of all rows over the arguments. -/
abbrev totalE : EReal := Spec.total (arg0 m c) (arg1 m c) (arg2 m c) (arg3 m c) (arg4 m c)

/-- A row of a tile by its number. -/
theorem rowEN_eq (t : Fin cfg0.N) (o : Fin 256) : rowEN m c (256 * t.val + o.val) = rowE m c (rowOf t o) :=
  dif_pos (rowOf t o).isLt

/-- The block of runs that a point leaves. -/
theorem outs_runs (t : Fin cfg0.N) : (outsAt0 m c t.val t.isLt).1 = fun j => runOf m c (rowOf t (j 1)) (j 0) := by
  have hN := lt_of_lt_of_eq t.isLt (show cfg0.N = 74 from N_0)
  by_cases h0 : t.val % 74 = 0 <;> by_cases h1 : t.val % 74 = 73
  · omega
  · rw [outsAt0_A m c t h0 h1]; dsimp only; rw [outA_5]; funext j; exact tileRun_eq m c t (j 0) (j 1)
  · rw [outsAt0_C m c t h0 h1]; dsimp only; rw [outC_5]; funext j; exact tileRun_eq m c t (j 0) (j 1)
  · rw [outsAt0_B m c t h0 h1]; dsimp only; rw [outB_5]; funext j; exact tileRun_eq m c t (j 0) (j 1)

/-- The block of row energies that a point leaves. -/
theorem outs_rows (t : Fin cfg0.N) : (outsAt0 m c t.val t.isLt).2.1 = fun j => rowE m c (rowOf t (j 1)) := by
  have hN := lt_of_lt_of_eq t.isLt (show cfg0.N = 74 from N_0)
  by_cases h0 : t.val % 74 = 0 <;> by_cases h1 : t.val % 74 = 73
  · omega
  · rw [outsAt0_A m c t h0 h1]; dsimp only; rw [outA_6]; funext j; exact tileE_eq m c t (j 1)
  · rw [outsAt0_C m c t h0 h1]; dsimp only; rw [outC_6]; funext j; exact tileE_eq m c t (j 1)
  · rw [outsAt0_B m c t h0 h1]; dsimp only; rw [outB_6]; funext j; exact tileE_eq m c t (j 1)

/-- The accumulator after point `n`: lane by lane, the energies of the rows of the tiles so far. -/
theorem outs_acc : ∀ (n : ℕ) (h : n < cfg0.N),
    (outsAt0 m c n h).2.2.2 = fun j => ∑ p ∈ Finset.range (n + 1), rowEN m c (256 * p + (j 1 : Fin 256).val)
  | 0, h => by
    refine (congrArg (·.2.2.2) (outsAt0_A m c ⟨0, h⟩ rfl (by show ¬ (0 % 74 = 73); decide))).trans ?_
    dsimp only
    rw [soutA_4]
    funext j
    rw [Finset.sum_range_one]
    exact (tileE_eq m c ⟨0, h⟩ (j 1)).trans (rowEN_eq m c ⟨0, h⟩ (j 1)).symm
  | n + 1, h => by
    have hN := lt_of_lt_of_eq h (show cfg0.N = 74 from N_0)
    have ih := outs_acc n (Nat.lt_of_succ_lt h)
    have h0 : ¬ (n + 1) % 74 = 0 := by omega
    by_cases h1 : (n + 1) % 74 = 73
    · refine (congrArg (·.2.2.2) (outsAt0_C m c ⟨n + 1, h⟩ h0 h1)).trans ?_
      dsimp only
      rw [soutC_4]
      funext j
      rw [Finset.sum_range_succ]
      exact congrArg₂ (· + ·) (congrFun ih j) ((tileE_eq m c ⟨n + 1, h⟩ (j 1)).trans (rowEN_eq m c ⟨n + 1, h⟩ (j 1)).symm)
    · refine (congrArg (·.2.2.2) (outsAt0_B m c ⟨n + 1, h⟩ h0 h1)).trans ?_
      dsimp only
      rw [soutB_4]
      funext j
      rw [Finset.sum_range_succ]
      exact congrArg₂ (· + ·) (congrFun ih j) ((tileE_eq m c ⟨n + 1, h⟩ (j 1)).trans (rowEN_eq m c ⟨n + 1, h⟩ (j 1)).symm)

/-- The scalar that the last point leaves. -/
theorem outs_total (t : Fin cfg0.N) (ht : t.val = 73) : (outsAt0 m c t.val t.isLt).2.2.1 = fun _ => totalE m c := by
  have h0 : ¬ t.val % 74 = 0 := by omega
  have h1 : t.val % 74 = 73 := by omega
  rw [outsAt0_C m c t h0 h1]
  dsimp only
  rw [outC_7]
  funext _
  refine Eq.trans ?_ (Spec.sum_tiles _ _ _ _ _)
  refine Finset.sum_congr rfl fun o _ => ?_
  rw [Finset.sum_range_succ, outs_acc, tileE_eq]
  simp only [ht]
  refine congrArg₂ (· + ·) rfl ((rowEN_eq m c t o).symm.trans ?_)
  rw [ht]

/-- The last grid point. -/
abbrev tLast : Fin cfg0.N := ⟨73, by rw [show cfg0.N = 74 from N_0]; decide⟩

/-- The array of runs after the kernel. -/
theorem final_runs : (dats m 0 c).arrAt 5 cfg0.N = fun i : S32x18944.Idx => runOf m c (i 1) (i 0) := by
  refine (dats m 0 c).arrAt_eq_of_covers 5 _ (by decide +kernel) fun t hf y => ?_
  obtain ⟨-, -, -, -, -, ⟨e0, e1⟩, -⟩ := idx_facts t
  blk_simp
  rw [after0_5, outs_runs]
  refine congrArg₂ (runOf m c) (Fin.ext ?_) (Fin.ext ?_)
  · show 256 * t.val + (y 1).val = win0_5.index t (1 : Fin 2) * 256 + 1 * (y 1).val; omega
  · show (y 0).val = win0_5.index t (0 : Fin 2) * 32 + 1 * (y 0).val; omega

/-- The array of row energies after the kernel. -/
theorem final_rows : (dats m 0 c).arrAt 6 cfg0.N = fun i : S1x18944.Idx => rowE m c (i 1) := by
  refine (dats m 0 c).arrAt_eq_of_covers 6 _ (by decide +kernel) fun t hf y => ?_
  obtain ⟨-, -, -, -, -, -, ⟨e0, e1⟩⟩ := idx_facts t
  blk_simp
  rw [after0_6, outs_rows]
  refine congrArg (rowE m c) (Fin.ext ?_)
  show 256 * t.val + (y 1).val = win0_6.index t (1 : Fin 2) * 256 + 1 * (y 1).val; omega

/-- The scalar after the kernel. -/
theorem final_total : (dats m 0 c).arrAt 7 cfg0.N = fun _ : S1x1.Idx => totalE m c := by
  refine (dats m 0 c).arrAt_eq_of_after_last 7 tLast (by decide +kernel) _ fun j => ?_
  blk_simp
  rw [after0_7, outs_total m c tLast rfl]

end Cert.KernelIdeal.Val
-- ==== Proof.Tail.lean ====
/- The results as the host returns them after the kernel. -/
module

public import proofs.«01_k».proof.Proof.Final

@[expose] public section

set_option maxRecDepth 16384

noncomputable section

namespace Cert.KernelIdeal.Val

open Idealize.ShloMosaic Idealize.SL.Sem Idealize.ShloMosaic.TcCoe Cert.KernelIdeal.Gen
open Idealize.ShloMosaic.Pipeline (Dat)

/-- The host's last lines over any contents: the row energies. -/
theorem after_v5 (W : Valuation τ sig (Elt Ideal)) (o : Fin 18944) :
    StableHlo.after (hostOps1 (F := Ideal)) W (Proc.devRef .tc main_v5) (ix1 o) = W (Proc.devRef .tc main_v4_1) (ix2 0 o) := by
  after_reads_at

/-- The host's last lines over any contents: the runs. -/
theorem after_v6 (W : Valuation τ sig (Elt Ideal)) (o : Fin 18944) (r : Fin 32) :
    StableHlo.after (hostOps1 (F := Ideal)) W (Proc.devRef .tc main_v6) (ix2 o r) = W (Proc.devRef .tc main_v4_0) (ix2 r o) := by
  after_reads_at

/-- The host's last lines over any contents: the scalar. -/
theorem after_v7 (W : Valuation τ sig (Elt Ideal)) (i : S_.Idx) :
    StableHlo.after (hostOps1 (F := Ideal)) W (Proc.devRef .tc main_v7) i = W (Proc.devRef .tc main_v4_2) (ix2 0 0) := by
  after_reads_at

variable (m : (ℓ : Loc nD τ sig) → Buf (Elt Ideal) ℓ) (c : Dev nD)

/-- What an array of the kernel holds when the host's last lines begin. -/
theorem arr_at (w : Fin cfg0.W) :
    Pipeline.withArrays (cfgs 0).spec c (V0 m c) (fun w => (dats m 0 c).arrAt w (cfgs 0).N) (Proc.devRef .tc (Pipeline.arrRef spec0 w))
      = (dats m 0 c).arrAt w cfg0.N :=
  Pipeline.withArrays_arr spec0 (by decide) c _ _ w

/-- The row energies as the host returns them. -/
theorem tail_v5 : Pipeline.afterTail₀ cfgs (dats m) 0 (V0 m) [hostOps1] c main_v5 = fun i : S18944.Idx => rowE m c (i 0) := by
  funext i
  obtain ⟨o, rfl⟩ : ∃ o : Fin 18944, i = ix1 o := ⟨i 0, eq_ix1 i⟩
  refine (after_v5 _ o).trans ?_
  exact (congrFun (arr_at m c 6) _).trans (congrFun (final_rows m c) _)

/-- The runs as the host returns them. -/
theorem tail_v6 : Pipeline.afterTail₀ cfgs (dats m) 0 (V0 m) [hostOps1] c main_v6 = fun i : S18944x32.Idx => runOf m c (i 0) (i 1) := by
  funext i
  obtain ⟨o, r, rfl⟩ : ∃ (o : Fin 18944) (r : Fin 32), i = ix2 o r := ⟨i 0, i 1, eq_ix2 i⟩
  refine (after_v6 _ o r).trans ?_
  exact (congrFun (arr_at m c 5) _).trans (congrFun (final_runs m c) _)

/-- The energy of all rows as the host returns it. -/
theorem tail_v7 : Pipeline.afterTail₀ cfgs (dats m) 0 (V0 m) [hostOps1] c main_v7 = fun _ : S_.Idx => totalE m c := by
  funext i
  refine (after_v7 _ i).trans ?_
  exact (congrFun (arr_at m c 7) _).trans (congrFun (final_total m c) _)

/-- The kernel program ends with the specification's values in its results and its arguments as they were. -/
theorem run_spec (ρ) : θ_run defs (onTc (τ := τ) (main (F := Ideal))) ⟨m, fun _ => 0, ρ⟩ (fun r => ∀ c : Dev nD,
      r.2.mem ((c.tc : Thread nD τ).loc main_v5) = (fun i : S18944.Idx => rowE m c (i 0))
      ∧ r.2.mem ((c.tc : Thread nD τ).loc main_v6) = (fun i : S18944x32.Idx => runOf m c (i 0) (i 1))
      ∧ r.2.mem ((c.tc : Thread nD τ).loc main_v7) = (fun _ : S_.Idx => totalE m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).2 main_v5 (Pipeline.mem_restRefs_of main_v5 (by decide) (by decide))).trans (tail_v5 m c),
      ((h c).2 main_v6 (Pipeline.mem_restRefs_of main_v6 (by decide) (by decide))).trans (tail_v6 m c),
      ((h c).2 main_v7 (Pipeline.mem_restRefs_of main_v7 (by decide) (by decide))).trans (tail_v7 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Val
-- ==== Proof.Take.lean ====
/- Rows taken from a table at computed indices, and the index words a pair of codes makes. -/
module

public import Idealize.ShloMosaic.Lib.ValueIdxCore
public import Idealize.ShloMosaic.Lib.Pointwise

@[expose] public section

noncomputable section

namespace Cert.Take

open Idealize.ShloMosaic

/-- The dimension numbers of a gather of whole rows of a table at an array of row numbers. -/
def rowsDims (N C A B : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- A gather of whole rows reads the table at the row number, brought into range, and at the result's own column. -/
theorem gather_rows_apply {α : Type} {N C A B w : Nat} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (s : Fin C) :
    Host.gather (rowsDims N C A B wf) x idx (ix3 a b s)
      = x (ix2 ⟨min (idx (ix3 a b 0)).toInt.toNat (N - 1), by omega⟩ s) := by
  unfold Host.gather
  congr 1
  funext e
  refine Fin.ext ?_
  show (rowsDims N C A B wf).start (ix3 a b s) idx e + (rowsDims N C A B wf).batchCoord (ix3 a b s) e
      + (rowsDims N C A B wf).offCoord (ix3 a b s) e = _
  have h01 : e = 0 ∨ e = 1 := by
    match e with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C A B wf).startIndexMap from List.mem_singleton.mpr rfl)]
    have hsi : (rowsDims N C A B wf).siIdx (ix3 a b s) ⟨List.idxOf (0 : Fin 2) (rowsDims N C A B wf).startIndexMap,
        List.idxOf_lt_length_iff.2 (List.mem_singleton.mpr rfl)⟩ = ix3 a b 0 := by
      funext f; refine Fin.ext ?_
      match f with
      | ⟨0, _⟩ => rfl
      | ⟨1, _⟩ => rfl
      | ⟨2, _⟩ => rfl
    rw [hsi]
    rfl
  · rw [GatherDims.batchCoord_eq_zero _ _ _ List.not_mem_nil]
    unfold GatherDims.start GatherDims.offCoord
    rw [dif_neg (show ¬ (1 : Fin 2) ∈ (rowsDims N C A B wf).startIndexMap from fun h => absurd (List.mem_singleton.mp h) (show ¬ (1 : Fin 2) = 0 by decide)),
      dif_pos (show (1 : Fin 2) ∈ (rowsDims N C A B wf).sKept from by
        rw [GatherDims.mem_sKept]; exact ⟨fun h => absurd (List.mem_singleton.mp h) (show ¬ (1 : Fin 2) = 0 by decide), List.not_mem_nil⟩)]
    simp only [Nat.zero_add]
    rfl

/-- The index word of a pair of codes. -/
def word (p q : BitVec 8) : BitVec 32 := IntOp.addi (IntOp.muli (p.setWidth 32) 256#32) (q.setWidth 32)

/-- The index word as a number. -/
theorem word_toNat (p q : BitVec 8) : (word p q).toNat = p.toNat * 256 + q.toNat := by
  have hp := p.isLt
  have hq := q.isLt
  show (p.setWidth 32 * 256#32 + q.setWidth 32).toNat = _
  rw [BitVec.toNat_add, BitVec.toNat_mul, BitVec.toNat_setWidth, BitVec.toNat_setWidth]
  show ((p.toNat % 2 ^ 32) * 256 % 2 ^ 32 + q.toNat % 2 ^ 32) % 2 ^ 32 = _
  omega

/-- The index word is below 65536. -/
theorem word_lt (p q : BitVec 8) : (word p q).toNat < 65536 := by
  have hp := p.isLt
  have hq := q.isLt
  rw [word_toNat]; omega

/-- The index word read as a signed number. -/
theorem word_toInt (p q : BitVec 8) : (word p q).toInt = ((word p q).toNat : Int) := by
  have := word_lt p q
  rw [BitVec.toInt_eq_toNat_of_lt (by omega)]

/-- The index word is not negative. -/
theorem word_slt (p q : BitVec 8) : IntOp.cmpi .slt (word p q) 0#32 = 0#1 := by
  have h := word_toInt p q
  have : ¬ (word p q).toInt < (0#32).toInt := by rw [h]; simp
  show BitVec.ofBool ((word p q).slt 0#32) = 0#1
  rw [BitVec.slt, decide_eq_false this]; rfl

/-- The index word is at least zero. -/
theorem word_sge (p q : BitVec 8) : IntOp.cmpi .sge (word p q) 0#32 = 1#1 := by
  have h := word_toInt p q
  have : (0#32).toInt ≤ (word p q).toInt := by rw [h]; simp
  show BitVec.ofBool ((0#32).sle (word p q)) = 1#1
  rw [BitVec.sle, decide_eq_true this]; rfl

/-- The index word is at most 65535. -/
theorem word_sle (p q : BitVec 8) : IntOp.cmpi .sle (word p q) 65535#32 = 1#1 := by
  have h := word_toInt p q
  have hl := word_lt p q
  have h5 : (65535#32).toInt = 65535 := by decide
  have : (word p q).toInt ≤ (65535#32).toInt := by rw [h, h5]; omega
  show BitVec.ofBool ((word p q).sle 65535#32) = 1#1
  rw [BitVec.sle, decide_eq_true this]; rfl

end Cert.Take

end
-- ==== Proof.Reference.lean ====
/- The reference's results are the specification's values: the table of pairs read at a pair of codes is the sum of the
   two codebook entries, and the stages after it are the specification's. -/
module

public import proofs.«01_k».proof.Proof.Spec
public import proofs.«01_k».proof.Proof.Take
public import proofs.«01_k».proof.Proof.Gen.ReferenceIdeal.Read
public import Idealize.ShloMosaic.Lib.ReduceAll

@[expose] public section

noncomputable section

namespace Cert.ReferenceIdeal.Read

open Idealize.ShloMosaic Cert.ReferenceIdeal Cert.ReferenceIdeal.Gen Cert.Take

variable (w : Vec Ideal S18944x3584 .bf16) (cd : Vec Ideal S18944x448x2 .i8) (cb : Vec Ideal S2x256x8 .bf16)
  (rs : Vec Ideal S18944 .f32) (x : Vec Ideal S4x1024x3584 .bf16)

/-- The reference's index at a weight group is the word of its two codes. -/
theorem index_word (o : Fin 18944) (g : Fin 448) :
    val_main_v18 (F := Ideal) cd (ix2 o g) = word (cd (ix3 o g 0)) (cd (ix3 o g 1)) := by
  rw [val_main_v18_apply, val_main_v15_apply, val_main_v13_apply, val_main_v12_apply, val_main_v11_apply,
    val_main_v17_apply, val_main_v16_apply, val_main_v11_apply, val_main_v14_apply, val_main_c_apply]
  have ho := o.isLt
  have hg := g.isLt
  have e0 : idx_main_v12 (idx_main_v13 (ix2 o g)) = ix3 o g 0 := by
    funext a; refine Fin.ext ?_
    match a with
    | ⟨0, _⟩ => show (o.val * 448 + g.val) / 448 = o.val; omega
    | ⟨1, _⟩ => show (o.val * 448 + g.val) / 1 % 448 = g.val; omega
    | ⟨2, _⟩ => rfl
  have e1 : idx_main_v16 (idx_main_v17 (ix2 o g)) = ix3 o g 1 := by
    funext a; refine Fin.ext ?_
    match a with
    | ⟨0, _⟩ => show (o.val * 448 + g.val) / 448 = o.val; omega
    | ⟨1, _⟩ => show (o.val * 448 + g.val) / 1 % 448 = g.val; omega
    | ⟨2, _⟩ => rfl
  rw [e0, e1]; rfl

/-- The index after the correction of negative indices is the same word. -/
theorem index_kept (o : Fin 18944) (g : Fin 448) (t : Fin 1) :
    val_main_call0_v5 (F := Ideal) cd (ix3 o g t) = word (cd (ix3 o g 0)) (cd (ix3 o g 1)) := by
  have e : idx_main_call0_v5 (ix3 o g t) = ix2 o g := eq_ix2 _
  rw [val_main_call0_v5_apply, e, val_main_call0_v4_apply, val_main_call0_v1_apply, val_main_call0_v0_apply,
    val_main_call0_c_apply, index_word, word_slt, ValueIdx.select_zero]

/-- Every index lies in the table. -/
theorem index_in (j : S18944x448.Idx) : val_main_call0_v12 (F := Ideal) cd j = 1#1 := by
  refine Host.reduce_andi_one _ _ _ _ j rfl (fun i => ?_)
  obtain ⟨o, g, t, rfl⟩ : ∃ (o : Fin 18944) (g : Fin 448) (t : Fin 1), i = ix3 o g t := ⟨i 0, i 1, i 2, eq_ix3 i⟩
  rw [val_main_call0_v11_apply, val_main_call0_v7_apply, val_main_call0_v10_apply, index_kept,
    val_main_call0_v6_apply, val_main_call0_c_2_apply, word_sge, val_main_call0_v9_apply, val_main_call0_v8_apply,
    val_main_call0_c_1_apply, word_sle]
  rfl

/-- The table of pairs at row `p` and column `s` is the sum of the codebooks' entries `p / 256` and `p % 256`. -/
theorem table_apply (p : Fin 65536) (s : Fin 8) : val_main_v10 (F := Ideal) cb (ix2 p s)
    = cb (ix3 0 ⟨p.val / 256, by omega⟩ s) + cb (ix3 1 ⟨p.val % 256, by omega⟩ s) := by
  rw [val_main_v10_apply, val_main_v9_apply, val_main_v7_apply, val_main_v3_apply, val_main_v2_apply,
    val_main_v1_apply, val_main_v0_apply, val_main_v8_apply, val_main_v6_apply, val_main_v5_apply,
    val_main_v4_apply, val_main_v0_apply]
  have hp := p.isLt
  have hs := s.isLt
  refine congrArg₂ (fun a b : EReal => a + b) (congrArg cb ?_) (congrArg cb ?_)
  · funext a; refine Fin.ext ?_
    match a with
    | ⟨0, _⟩ => rfl
    | ⟨1, _⟩ =>
      show ((p.val * 8 + s.val) / 2048 * 8 + (p.val * 8 + s.val) % 8) / 8 % 256 = p.val / 256
      omega
    | ⟨2, _⟩ =>
      show ((p.val * 8 + s.val) / 2048 * 8 + (p.val * 8 + s.val) % 8) % 8 = s.val
      omega
  · funext a; refine Fin.ext ?_
    match a with
    | ⟨0, _⟩ => rfl
    | ⟨1, _⟩ =>
      show ((p.val * 8 + s.val) / 8 % 256 * 8 + (p.val * 8 + s.val) % 8) / 8 % 256 = p.val % 256
      omega
    | ⟨2, _⟩ =>
      show ((p.val * 8 + s.val) / 8 % 256 * 8 + (p.val * 8 + s.val) % 8) % 8 = s.val
      omega

/-- The decoded group: at each place the sum of the entries its two codes choose. -/
theorem decoded_apply (o : Fin 18944) (g : Fin 448) (s : Fin 8) : val_main_v19 (F := Ideal) cd cb (ix3 o g s)
    = cb (ix3 0 (Cert.KernelIdeal.Val.codeOf (cd (ix3 o g 0))) s)
      + cb (ix3 1 (Cert.KernelIdeal.Val.codeOf (cd (ix3 o g 1))) s) := by
  rw [val_main_v19_apply, val_main_call0_v14_apply, index_in, ValueIdx.select_one]
  refine (gather_rows_apply (by decide) gather_S65536x8_S18944x448x1_S18944x448x8_2_0_n_n_0_2_18.wf _ _ o g s).trans ?_
  have h0 : (cd (ix3 o g 0) : BitVec 8).toNat < 256 := (cd (ix3 o g 0) : BitVec 8).isLt
  have h1 : (cd (ix3 o g 1) : BitVec 8).toNat < 256 := (cd (ix3 o g 1) : BitVec 8).isLt
  have hw := word_toNat (cd (ix3 o g 0)) (cd (ix3 o g 1))
  have hk : (val_main_call0_v5 (F := Ideal) cd (ix3 o g 0)).toInt.toNat
      = (cd (ix3 o g 0) : BitVec 8).toNat * 256 + (cd (ix3 o g 1) : BitVec 8).toNat := by
    rw [index_kept, word_toInt, Int.toNat_natCast, hw]
  refine (table_apply cb _ s).trans ?_
  refine congrArg₂ (fun a b : EReal => a + b) (congrArg (fun k => cb (ix3 0 k s)) (Fin.ext ?_))
    (congrArg (fun k => cb (ix3 1 k s)) (Fin.ext ?_))
  · show min (val_main_call0_v5 (F := Ideal) cd (ix3 o g 0)).toInt.toNat (65536 - 1) / 256
      = (cd (ix3 o g 0) : BitVec 8).toNat
    rw [hk]; omega
  · show min (val_main_call0_v5 (F := Ideal) cd (ix3 o g 0)).toInt.toNat (65536 - 1) % 256
      = (cd (ix3 o g 1) : BitVec 8).toNat
    rw [hk]; omega

/-- The reference's residual is the specification's. -/
theorem residual_apply (o : Fin 18944) (d : Fin 3584) :
    val_main_v25 (F := Ideal) w cd cb rs (ix2 o d) = Spec.res w cd cb rs o d := by
  have ho := o.isLt
  have hd := d.isLt
  have e : idx_main_v23 (ix2 o d) = ix3 o ⟨d.val / 8, by omega⟩ ⟨d.val % 8, by omega⟩ := by
    funext a; refine Fin.ext ?_
    match a with
    | ⟨0, _⟩ => show (o.val * 3584 + d.val) / 3584 = o.val; omega
    | ⟨1, _⟩ => show (o.val * 3584 + d.val) / 8 % 448 = d.val / 8; omega
    | ⟨2, _⟩ => show (o.val * 3584 + d.val) % 8 = d.val % 8; omega
  rw [val_main_v25_apply, val_main_v24_apply, val_main_v23_apply, e, val_main_v22_apply, decoded_apply,
    val_main_v21_apply, val_main_v20_apply]
  have e3 (g : Fin 448) (s : Fin 8) : idx_main_v20 (idx_main_v21 (ix3 o g s)) = ix1 o := eq_ix1 _
  rw [e3]; rfl

/-- The reference's products are the specification's. -/
theorem product_apply (o : Fin 18944) (t : Fin 4096) :
    val_main_v28 (F := Ideal) w cd cb rs x (ix2 o t) = Spec.z w cd cb rs x o t := by
  rw [val_main_v28_apply]
  refine Finset.sum_congr rfl fun d _ => ?_
  have ht := t.isLt
  have hd := d.isLt
  have el : lidx_main_v28 (ix2 o t) d = ix2 o d := eq_ix2 _
  have er : idx_main_v27 (ridx_main_v28 (ix2 o t) d)
      = ix3 ⟨t.val / 1024, by omega⟩ ⟨t.val % 1024, by omega⟩ d := by
    funext a; refine Fin.ext ?_
    match a with
    | ⟨0, _⟩ => show (t.val * 3584 + d.val) / 3670016 = t.val / 1024; omega
    | ⟨1, _⟩ => show (t.val * 3584 + d.val) / 3584 % 1024 = t.val % 1024; omega
    | ⟨2, _⟩ => show (t.val * 3584 + d.val) % 3584 = d.val; omega
  rw [el, residual_apply, val_main_v27_apply, er, val_main_v26_apply]
  rfl

/-- The reference's energy of a run is the specification's. -/
theorem run_apply (o : Fin 18944) (r : Fin 32) :
    val_main_v33 (F := Ideal) w cd cb rs x (ix2 o r) = Spec.run w cd cb rs x o r := by
  rw [val_main_v33_apply, val_main_v31_apply, val_main_v32_apply, val_main_cst_0_apply, val_main_cst_apply]
  have hr := r.isLt
  have ho := o.isLt
  refine congrArg (fun a : EReal => Ideal.div a (Ideal.ofBits .f32 0x45800000#32)) ?_
  refine (congrArg (fun a : EReal => a + _) (Ideal.ofBits_zero _)).trans ((zero_add _).trans ?_)
  refine Finset.sum_congr rfl fun u _ => ?_
  have hu := u.isLt
  have e : idx_main_v30 (idx_main_v31 (ix2 o r) u) = ix2 o ⟨128 * r.val + u.val, by omega⟩ := by
    funext a; refine Fin.ext ?_
    match a with
    | ⟨0, _⟩ => show ((o.val * 32 + r.val) * 128 + u.val) / 4096 = o.val; omega
    | ⟨1, _⟩ => show ((o.val * 32 + r.val) * 128 + u.val) % 4096 = 128 * r.val + u.val; omega
  rw [val_main_v30_apply, e, val_main_v29_apply, product_apply]
  rfl

/-- The reference's energies of the runs. -/
theorem runs_eq : val_main_v33 (F := Ideal) w cd cb rs x = fun i : S18944x32.Idx => Spec.run w cd cb rs x (i 0) (i 1) := by
  funext i
  obtain ⟨o, r, rfl⟩ : ∃ (o : Fin 18944) (r : Fin 32), i = ix2 o r := ⟨i 0, i 1, eq_ix2 i⟩
  exact run_apply w cd cb rs x o r

/-- The reference's energies of the rows. -/
theorem rows_eq : val_main_v34 (F := Ideal) w cd cb rs x = fun i : S18944.Idx => Spec.row w cd cb rs x (i 0) := by
  funext i
  rw [val_main_v34_apply, val_main_cst_1_apply]
  refine (congrArg (fun a : EReal => a + _) (Ideal.ofBits_zero _)).trans ((zero_add _).trans ?_)
  exact Finset.sum_congr rfl fun r _ => congrFun (runs_eq w cd cb rs x) _

/-- The reference's energy of all rows. -/
theorem total_eq : val_main_v35 (F := Ideal) w cd cb rs x = fun _ : S_.Idx => Spec.total w cd cb rs x := by
  funext i
  rw [val_main_v35_apply, val_main_cst_2_apply, rows_eq]
  refine (congrArg (fun a : EReal => a + _) (Ideal.ofBits_zero _)).trans ((zero_add _).trans ?_)
  exact sum_idx1 (fun j : S18944.Idx => Spec.row w cd cb rs x (j 0))

end Cert.ReferenceIdeal.Read

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Tail
public import proofs.«01_k».proof.Proof.Reference
public import Idealize.ShloMosaic.Adequacy
public import Idealize.ShloMosaic.Init
public import Idealize.ShloMosaic.Lib.Quiescent

@[expose] public section

noncomputable section

namespace Cert.Proof

open Idealize.ShloMosaic Idealize.SL.Sem

/-- The reference terminates without a fault, its arguments end unchanged and no semaphore counts. -/
theorem frame_reference : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The reference ends with the specification's values of the kernel program's arguments in its results, when its own
    arguments are the same. -/
theorem run_reference (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = Cert.KernelIdeal.Val.arg0 m c)
    (h1 : m' ((c.tc : Thread Cert.ReferenceIdeal.nD Cert.ReferenceIdeal.τ).loc Cert.ReferenceIdeal.main_arg1) = Cert.KernelIdeal.Val.arg1 m c)
    (h2 : m' ((c.tc : Thread Cert.ReferenceIdeal.nD Cert.ReferenceIdeal.τ).loc Cert.ReferenceIdeal.main_arg2) = Cert.KernelIdeal.Val.arg2 m c)
    (h3 : m' ((c.tc : Thread Cert.ReferenceIdeal.nD Cert.ReferenceIdeal.τ).loc Cert.ReferenceIdeal.main_arg3) = Cert.KernelIdeal.Val.arg3 m c)
    (h4 : m' ((c.tc : Thread Cert.ReferenceIdeal.nD Cert.ReferenceIdeal.τ).loc Cert.ReferenceIdeal.main_arg4) = Cert.KernelIdeal.Val.arg4 m c) :
    Cert.ReferenceIdeal.Value.res_main_v34 m' c = (fun i : Cert.KernelIdeal.S18944.Idx => Cert.KernelIdeal.Val.rowE m c (i 0))
    ∧ Cert.ReferenceIdeal.Value.res_main_v33 m' c
        = (fun i : Cert.KernelIdeal.S18944x32.Idx => Cert.KernelIdeal.Val.runOf m c (i 0) (i 1))
    ∧ Cert.ReferenceIdeal.Value.res_main_v35 m' c = (fun _ : Cert.KernelIdeal.S_.Idx => Cert.KernelIdeal.Val.totalE m c) := by
  rw [Cert.ReferenceIdeal.Read.val_main_v34_eq, Cert.ReferenceIdeal.Read.val_main_v33_eq,
    Cert.ReferenceIdeal.Read.val_main_v35_eq, h0, h1, h2, h3, h4]
  exact ⟨Cert.ReferenceIdeal.Read.rows_eq _ _ _ _ _, Cert.ReferenceIdeal.Read.runs_eq _ _ _ _ _,
    Cert.ReferenceIdeal.Read.total_eq _ _ _ _ _⟩

/-- The kernel program and the reference end with equal results, for all arguments. -/
theorem algebraic : Cert.algebraic_KernelIdeal_ReferenceIdeal := fun m g m' g' _ ha =>
  ⟨fun c => fun i : Cert.KernelIdeal.S18944.Idx => Cert.KernelIdeal.Val.rowE m c (i 0),
    fun c => fun i : Cert.KernelIdeal.S18944x32.Idx => Cert.KernelIdeal.Val.runOf m c (i 0) (i 1),
    fun c => fun _ : Cert.KernelIdeal.S_.Idx => Cert.KernelIdeal.Val.totalE m c,
    Cert.KernelIdeal.Val.run_spec m g,
    (θ_run Cert.ReferenceIdeal.defs _ _).mono (fun _ h c =>
      have e := run_reference m m' c (ha c).1 (ha c).2.1 (ha c).2.2.1 (ha c).2.2.2.1 (ha c).2.2.2.2
      ⟨(h c).1.trans e.1, (h c).2.1.trans e.2.1, (h c).2.2.1.trans e.2.2, (h c).2.2.2⟩)
      (Cert.ReferenceIdeal.Value.run (F := Ideal) m' g')⟩

/-- The certificate's claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
